-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_values_26) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x91 : Shape := ⟨2, ![20000, 91]⟩
abbrev S20000x364 : Shape := ⟨2, ![20000, 364]⟩
abbrev S20000x4 : Shape := ⟨2, ![20000, 4]⟩
abbrev S2 : Shape := ⟨1, ![2]⟩
abbrev S20000x90 : Shape := ⟨2, ![20000, 90]⟩
abbrev S1800000 : Shape := ⟨1, ![1800000]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4 : Shape := ⟨2, ![4096, 4]⟩
abbrev S20000x91x4 : Shape := ⟨3, ![20000, 91, 4]⟩
abbrev S4096x2 : Shape := ⟨2, ![4096, 2]⟩
abbrev S1x4096 : Shape := ⟨2, ![1, 4096]⟩
abbrev S2x4096 : Shape := ⟨2, ![2, 4096]⟩
abbrev S1x2 : Shape := ⟨2, ![1, 2]⟩
abbrev S4x4096 : Shape := ⟨2, ![4, 4096]⟩
abbrev S100 : Shape := ⟨1, ![100]⟩
abbrev S100x1 : Shape := ⟨2, ![100, 1]⟩
abbrev S100x4 : Shape := ⟨2, ![100, 4]⟩
abbrev S2000x91 : Shape := ⟨2, ![2000, 91]⟩
abbrev S2000x90 : Shape := ⟨2, ![2000, 90]⟩
abbrev S2000 : Shape := ⟨1, ![2000]⟩
abbrev S2000x1 : Shape := ⟨2, ![2000, 1]⟩
abbrev S4096x8 : Shape := ⟨2, ![4096, 8]⟩
abbrev S128x4096 : Shape := ⟨2, ![128, 4096]⟩
abbrev S128x1 : Shape := ⟨2, ![128, 1]⟩
abbrev S1x1x4096 : Shape := ⟨3, ![1, 1, 4096]⟩
abbrev S1x1x1 : Shape := ⟨3, ![1, 1, 1]⟩

abbrev nBuf : Space → Nat
  | .hbm => 156
  | .vmem => 15
  | .smem => 0
  | _ => 0

abbrev hbmTy0_0 (i : Nat) : BufTy := match i % 128 with
  | 0 => ⟨S20000x91, .f32⟩
  | 1 => ⟨S20000x364, .f32⟩
  | 2 => ⟨S20000x4, .f32⟩
  | 3 => ⟨S2, .i32⟩
  | 4 => ⟨S20000x90, .f32⟩
  | 5 => ⟨S1800000, .f32⟩
  | 6 => ⟨S4096, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4096x4, .f32⟩
  | 70 => ⟨S4096x4, .i1⟩
  | 71 => ⟨S_, .f32⟩
  | 72 => ⟨S4096x4, .f32⟩
  | 73 => ⟨S4096x4, .f32⟩
  | 74 => ⟨S20000x91x4, .f32⟩
  | 75 => ⟨S_, .i32⟩
  | 76 => ⟨S4096, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x1, .i32⟩
  | 94 => ⟨S4096x2, .i32⟩
  | 95 => ⟨S4096x4, .f32⟩
  | 96 => ⟨S4096, .f32⟩
  | 97 => ⟨S1x4096, .f32⟩
  | 98 => ⟨S1x4096, .f32⟩
  | 99 => ⟨S2x4096, .f32⟩
  | 100 => ⟨S2, .f32⟩
  | 101 => ⟨S1x2, .f32⟩
  | 102 => ⟨S4x4096, .f32⟩
  | 103 => ⟨S4x4096, .f32⟩
  | 104 => ⟨S4096x1, .f32⟩
  | 105 => ⟨S4x4096, .f32⟩
  | 106 => ⟨S1x4096, .f32⟩
  | 107 => ⟨S4096, .f32⟩
  | 108 => ⟨S100, .f32⟩
  | 109 => ⟨S100, .i32⟩
  | 110 => ⟨S4096x4, .f32⟩
  | 111 => ⟨S_, .i32⟩
  | 112 => ⟨S100, .i32⟩
  | 113 => ⟨S100, .i1⟩
  | 114 => ⟨S_, .i32⟩
  | 115 => ⟨S100, .i32⟩
  | 116 => ⟨S100, .i32⟩
  | 117 => ⟨S100, .i32⟩
  | 118 => ⟨S100x1, .i32⟩
  | 119 => ⟨S1, .i32⟩
  | 120 => ⟨S_, .i32⟩
  | 121 => ⟨S100x1, .i32⟩
  | 122 => ⟨S100x1, .i1⟩
  | 123 => ⟨S1x1, .i32⟩
  | 124 => ⟨S100x1, .i32⟩
  | 125 => ⟨S100x1, .i1⟩
  | 126 => ⟨S100x1, .i1⟩
  | 127 => ⟨S_, .i1⟩
  | _ => ⟨S20000x91, .f32⟩

abbrev hbmTy0_1 (i : Nat) : BufTy := match i % 128 with
  | 0 => ⟨S100, .i1⟩
  | 1 => ⟨S100x4, .f32⟩
  | 2 => ⟨S100x4, .i1⟩
  | 3 => ⟨S_, .f32⟩
  | 4 => ⟨S100x4, .f32⟩
  | 5 => ⟨S100x4, .f32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S1, .i32⟩
  | 15 => ⟨S_, .i32⟩
  | 16 => ⟨S100x1, .i32⟩
  | 17 => ⟨S100x1, .i1⟩
  | 18 => ⟨S1x1, .i32⟩
  | 19 => ⟨S100x1, .i32⟩
  | 20 => ⟨S100x1, .i1⟩
  | 21 => ⟨S100x1, .i1⟩
  | 22 => ⟨S_, .i1⟩
  | 23 => ⟨S100, .i1⟩
  | 24 => ⟨S100, .i32⟩
  | 25 => ⟨S_, .i32⟩
  | 26 => ⟨S100, .i32⟩
  | 27 => ⟨S100, .i32⟩
  | _ => ⟨S20000x91, .f32⟩

abbrev hbmTy (i : Nat) : BufTy := match i / 128 with
  | 0 => hbmTy0_0 i
  | 1 => hbmTy0_1 i
  | _ => ⟨S20000x91, .f32⟩

abbrev bufTy : (tb : Table) → Fin (tcTables nBuf tb) → BufTy
  | .hbm, ⟨i, _⟩ => hbmTy i
  | .local _ .vmem, ⟨0, _⟩ => ⟨S2000x91, .f32⟩
  | .local _ .vmem, ⟨1, _⟩ => ⟨S2000x91, .f32⟩
  | .local _ .vmem, ⟨2, _⟩ => ⟨S2000x90, .f32⟩
  | .local _ .vmem, ⟨3, _⟩ => ⟨S2000x90, .f32⟩
  | .local _ .vmem, ⟨4, _⟩ => ⟨S4x4096, .f32⟩
  | .local _ .vmem, ⟨5, _⟩ => ⟨S4x4096, .f32⟩
  | .local _ .vmem, ⟨6, _⟩ => ⟨S2x4096, .f32⟩
  | .local _ .vmem, ⟨7, _⟩ => ⟨S4096x4, .f32⟩
  | .local _ .vmem, ⟨8, _⟩ => ⟨S4096x4, .f32⟩
  | .local _ .vmem, ⟨9, _⟩ => ⟨S4096x1, .f32⟩
  | .local _ .vmem, ⟨10, _⟩ => ⟨S1x2, .f32⟩
  | .local _ .vmem, ⟨11, _⟩ => ⟨S4x4096, .f32⟩
  | .local _ .vmem, ⟨12, _⟩ => ⟨S1x4096, .f32⟩
  | .local _ .vmem, ⟨13, _⟩ => ⟨S4096x8, .f32⟩
  | .local _ .vmem, ⟨14, _⟩ => ⟨S128x4096, .f32⟩
  | _, _ => ⟨S20000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_values : Ref sig .tc := ⟨.hbm, 6, rfl⟩
abbrev main_call0_indices : Ref sig .tc := ⟨.hbm, 7, rfl⟩
abbrev main_call0_c : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_c : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_0 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_v2 : Ref sig .tc := ⟨.hbm, 25, rfl⟩
abbrev main_call0_c_0 : Ref sig .tc := ⟨.hbm, 26, rfl⟩
abbrev main_call0_call1_v0 : Ref sig .tc := ⟨.hbm, 27, rfl⟩
abbrev main_call0_call1_c : Ref sig .tc := ⟨.hbm, 28, rfl⟩
abbrev main_call0_call1_v1 : Ref sig .tc := ⟨.hbm, 29, rfl⟩
abbrev main_call0_call1_c_0 : Ref sig .tc := ⟨.hbm, 30, rfl⟩
abbrev main_call0_call1_v2 : Ref sig .tc := ⟨.hbm, 31, rfl⟩
abbrev main_call0_call1_v3 : Ref sig .tc := ⟨.hbm, 32, rfl⟩
abbrev main_call0_call1_v4 : Ref sig .tc := ⟨.hbm, 33, rfl⟩
abbrev main_call0_call1_c_1 : Ref sig .tc := ⟨.hbm, 34, rfl⟩
abbrev main_call0_call1_v5 : Ref sig .tc := ⟨.hbm, 35, rfl⟩
abbrev main_call0_call1_v6 : Ref sig .tc := ⟨.hbm, 36, rfl⟩
abbrev main_call0_call1_c_2 : Ref sig .tc := ⟨.hbm, 37, rfl⟩
abbrev main_call0_call1_v7 : Ref sig .tc := ⟨.hbm, 38, rfl⟩
abbrev main_call0_call1_v8 : Ref sig .tc := ⟨.hbm, 39, rfl⟩
abbrev main_call0_call1_c_3 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_v12 : Ref sig .tc := ⟨.hbm, 44, rfl⟩
abbrev main_call0_call1_v13 : Ref sig .tc := ⟨.hbm, 45, rfl⟩
abbrev main_call0_call1_v14 : Ref sig .tc := ⟨.hbm, 46, rfl⟩
abbrev main_call0_v3 : Ref sig .tc := ⟨.hbm, 47, rfl⟩
abbrev main_call0_c_1 : Ref sig .tc := ⟨.hbm, 48, rfl⟩
abbrev main_call0_v4 : Ref sig .tc := ⟨.hbm, 49, rfl⟩
abbrev main_call0_v5 : Ref sig .tc := ⟨.hbm, 50, rfl⟩
abbrev main_call0_call2_c : Ref sig .tc := ⟨.hbm, 51, rfl⟩
abbrev main_call0_call2_v0 : Ref sig .tc := ⟨.hbm, 52, rfl⟩
abbrev main_call0_call2_v1 : Ref sig .tc := ⟨.hbm, 53, rfl⟩
abbrev main_call0_call2_c_0 : Ref sig .tc := ⟨.hbm, 54, rfl⟩
abbrev main_call0_call2_v2 : Ref sig .tc := ⟨.hbm, 55, rfl⟩
abbrev main_call0_call2_v3 : Ref sig .tc := ⟨.hbm, 56, rfl⟩
abbrev main_call0_call2_v4 : Ref sig .tc := ⟨.hbm, 57, rfl⟩
abbrev main_call0_call2_v5 : Ref sig .tc := ⟨.hbm, 58, rfl⟩
abbrev main_call0_call2_c_1 : Ref sig .tc := ⟨.hbm, 59, rfl⟩
abbrev main_call0_call2_c_2 : Ref sig .tc := ⟨.hbm, 60, rfl⟩
abbrev main_call0_call2_v6 : Ref sig .tc := ⟨.hbm, 61, rfl⟩
abbrev main_call0_call2_v7 : Ref sig .tc := ⟨.hbm, 62, rfl⟩
abbrev main_call0_call2_v8 : Ref sig .tc := ⟨.hbm, 63, rfl⟩
abbrev main_call0_call2_v9 : Ref sig .tc := ⟨.hbm, 64, rfl⟩
abbrev main_call0_call2_v10 : Ref sig .tc := ⟨.hbm, 65, rfl⟩
abbrev main_call0_call2_v11 : Ref sig .tc := ⟨.hbm, 66, rfl⟩
abbrev main_call0_call2_c_3 : Ref sig .tc := ⟨.hbm, 67, rfl⟩
abbrev main_call0_call2_v12 : Ref sig .tc := ⟨.hbm, 68, rfl⟩
abbrev main_call0_call2_v13 : Ref sig .tc := ⟨.hbm, 69, rfl⟩
abbrev main_call0_call2_v14 : Ref sig .tc := ⟨.hbm, 70, rfl⟩
abbrev main_call0_call2_cst : Ref sig .tc := ⟨.hbm, 71, rfl⟩
abbrev main_call0_call2_v15 : Ref sig .tc := ⟨.hbm, 72, rfl⟩
abbrev main_call0_v6 : Ref sig .tc := ⟨.hbm, 73, rfl⟩
abbrev main_call0_v7 : Ref sig .tc := ⟨.hbm, 74, rfl⟩
abbrev main_call0_c_2 : Ref sig .tc := ⟨.hbm, 75, rfl⟩
abbrev main_call0_v8 : Ref sig .tc := ⟨.hbm, 76, rfl⟩
abbrev main_call0_v9 : Ref sig .tc := ⟨.hbm, 77, rfl⟩
abbrev main_call0_c_3 : Ref sig .tc := ⟨.hbm, 78, rfl⟩
abbrev main_call0_v10 : Ref sig .tc := ⟨.hbm, 79, rfl⟩
abbrev main_call0_v11 : Ref sig .tc := ⟨.hbm, 80, rfl⟩
abbrev main_call0_c_4 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_call0_c_5 : Ref sig .tc := ⟨.hbm, 85, rfl⟩
abbrev main_call0_v15 : Ref sig .tc := ⟨.hbm, 86, rfl⟩
abbrev main_call0_v16 : Ref sig .tc := ⟨.hbm, 87, rfl⟩
abbrev main_call0_c_6 : Ref sig .tc := ⟨.hbm, 88, rfl⟩
abbrev main_call0_v17 : Ref sig .tc := ⟨.hbm, 89, rfl⟩
abbrev main_call0_v18 : Ref sig .tc := ⟨.hbm, 90, rfl⟩
abbrev main_call0_v19 : Ref sig .tc := ⟨.hbm, 91, rfl⟩
abbrev main_call0_v20 : Ref sig .tc := ⟨.hbm, 92, rfl⟩
abbrev main_call0_v21 : Ref sig .tc := ⟨.hbm, 93, rfl⟩
abbrev main_call0_v22 : Ref sig .tc := ⟨.hbm, 94, rfl⟩
abbrev main_call0_v23 : Ref sig .tc := ⟨.hbm, 95, rfl⟩
abbrev main_call0_v24 : Ref sig .tc := ⟨.hbm, 96, rfl⟩
abbrev main_call0_v25 : Ref sig .tc := ⟨.hbm, 97, rfl⟩
abbrev main_call0_v26 : Ref sig .tc := ⟨.hbm, 98, rfl⟩
abbrev main_call0_v27 : Ref sig .tc := ⟨.hbm, 99, rfl⟩
abbrev main_call0_v28 : Ref sig .tc := ⟨.hbm, 100, rfl⟩
abbrev main_call0_v29 : Ref sig .tc := ⟨.hbm, 101, rfl⟩
abbrev main_call0_v30 : Ref sig .tc := ⟨.hbm, 102, rfl⟩
abbrev main_call0_v31 : Ref sig .tc := ⟨.hbm, 103, rfl⟩
abbrev main_call0_v32 : Ref sig .tc := ⟨.hbm, 104, rfl⟩
abbrev main_call0_v33_0 : Ref sig .tc := ⟨.hbm, 105, rfl⟩
abbrev main_call0_v33_1 : Ref sig .tc := ⟨.hbm, 106, rfl⟩
abbrev main_call0_v34 : Ref sig .tc := ⟨.hbm, 107, rfl⟩
abbrev main_v0_1 : Ref sig .tc := ⟨.hbm, 108, rfl⟩
abbrev main_call0_indices_8 : Ref sig .tc := ⟨.hbm, 109, rfl⟩
abbrev main_call0_v35 : Ref sig .tc := ⟨.hbm, 110, rfl⟩
abbrev main_call0_call3_c : Ref sig .tc := ⟨.hbm, 111, rfl⟩
abbrev main_call0_call3_v0 : Ref sig .tc := ⟨.hbm, 112, rfl⟩
abbrev main_call0_call3_v1 : Ref sig .tc := ⟨.hbm, 113, rfl⟩
abbrev main_call0_call3_c_0 : Ref sig .tc := ⟨.hbm, 114, rfl⟩
abbrev main_call0_call3_v2 : Ref sig .tc := ⟨.hbm, 115, rfl⟩
abbrev main_call0_call3_v3 : Ref sig .tc := ⟨.hbm, 116, rfl⟩
abbrev main_call0_call3_v4 : Ref sig .tc := ⟨.hbm, 117, rfl⟩
abbrev main_call0_call3_v5 : Ref sig .tc := ⟨.hbm, 118, rfl⟩
abbrev main_call0_call3_c_1 : Ref sig .tc := ⟨.hbm, 119, rfl⟩
abbrev main_call0_call3_c_2 : Ref sig .tc := ⟨.hbm, 120, rfl⟩
abbrev main_call0_call3_v6 : Ref sig .tc := ⟨.hbm, 121, rfl⟩
abbrev main_call0_call3_v7 : Ref sig .tc := ⟨.hbm, 122, rfl⟩
abbrev main_call0_call3_v8 : Ref sig .tc := ⟨.hbm, 123, rfl⟩
abbrev main_call0_call3_v9 : Ref sig .tc := ⟨.hbm, 124, rfl⟩
abbrev main_call0_call3_v10 : Ref sig .tc := ⟨.hbm, 125, rfl⟩
abbrev main_call0_call3_v11 : Ref sig .tc := ⟨.hbm, 126, rfl⟩
abbrev main_call0_call3_c_3 : Ref sig .tc := ⟨.hbm, 127, rfl⟩
abbrev main_call0_call3_v12 : Ref sig .tc := ⟨.hbm, 128, rfl⟩
abbrev main_call0_call3_v13 : Ref sig .tc := ⟨.hbm, 129, rfl⟩
abbrev main_call0_call3_v14 : Ref sig .tc := ⟨.hbm, 130, rfl⟩
abbrev main_call0_call3_cst : Ref sig .tc := ⟨.hbm, 131, rfl⟩
abbrev main_call0_call3_v15 : Ref sig .tc := ⟨.hbm, 132, rfl⟩
abbrev main_v0_0 : Ref sig .tc := ⟨.hbm, 133, rfl⟩
abbrev main_call0_call4_c : Ref sig .tc := ⟨.hbm, 134, rfl⟩
abbrev main_call0_call4_v0 : Ref sig .tc := ⟨.hbm, 135, rfl⟩
abbrev main_call0_call4_v1 : Ref sig .tc := ⟨.hbm, 136, rfl⟩
abbrev main_call0_call4_c_0 : Ref sig .tc := ⟨.hbm, 137, rfl⟩
abbrev main_call0_call4_v2 : Ref sig .tc := ⟨.hbm, 138, rfl⟩
abbrev main_call0_call4_v3 : Ref sig .tc := ⟨.hbm, 139, rfl⟩
abbrev main_call0_call4_v4 : Ref sig .tc := ⟨.hbm, 140, rfl⟩
abbrev main_call0_call4_v5 : Ref sig .tc := ⟨.hbm, 141, rfl⟩
abbrev main_call0_call4_c_1 : Ref sig .tc := ⟨.hbm, 142, rfl⟩
abbrev main_call0_call4_c_2 : Ref sig .tc := ⟨.hbm, 143, rfl⟩
abbrev main_call0_call4_v6 : Ref sig .tc := ⟨.hbm, 144, rfl⟩
abbrev main_call0_call4_v7 : Ref sig .tc := ⟨.hbm, 145, rfl⟩
abbrev main_call0_call4_v8 : Ref sig .tc := ⟨.hbm, 146, rfl⟩
abbrev main_call0_call4_v9 : Ref sig .tc := ⟨.hbm, 147, rfl⟩
abbrev main_call0_call4_v10 : Ref sig .tc := ⟨.hbm, 148, rfl⟩
abbrev main_call0_call4_v11 : Ref sig .tc := ⟨.hbm, 149, rfl⟩
abbrev main_call0_call4_c_3 : Ref sig .tc := ⟨.hbm, 150, rfl⟩
abbrev main_call0_call4_v12 : Ref sig .tc := ⟨.hbm, 151, rfl⟩
abbrev main_call0_call4_v13 : Ref sig .tc := ⟨.hbm, 152, rfl⟩
abbrev main_call0_call4_c_4 : Ref sig .tc := ⟨.hbm, 153, rfl⟩
abbrev main_call0_call4_v14 : Ref sig .tc := ⟨.hbm, 154, rfl⟩
abbrev main_v0_2 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

def k1_off1 (arg11 : BitVec 32) : Fin 2 → Nat :=
  let c128_i32 : BitVec 32 := 128#32
  let v203 : BitVec 32 := Scalar.muli arg11 c128_i32
  let v204 : Index := Scalar.indexCast v203
  let c0_96 : Index := 0#32
  ![v204.toNat, 0]

def k1_off2 (arg11 : BitVec 32) : Fin 2 → Nat :=
  let c128_i32 : BitVec 32 := 128#32
  let v203 : BitVec 32 := Scalar.muli arg11 c128_i32
  let v206 : Index := Scalar.indexCast v203
  let c1_97 : Index := 1#32
  ![v206.toNat, 1]
def k1_off3 (arg11 : BitVec 32) : Fin 2 → Nat :=
  let c128_i32 : BitVec 32 := 128#32
  let v203 : BitVec 32 := Scalar.muli arg11 c128_i32
  let v208 : Index := Scalar.indexCast v203
  let c2_98 : Index := 2#32
  ![v208.toNat, 2]
def k1_off4 (arg11 : BitVec 32) : Fin 2 → Nat :=
  let c128_i32 : BitVec 32 := 128#32
  let v203 : BitVec 32 := Scalar.muli arg11 c128_i32
  let v210 : Index := Scalar.indexCast v203
  let c3_99 : Index := 3#32
  ![v210.toNat, 3]
def k1_off5 (arg11 : BitVec 32) : Fin 2 → Nat :=
  let c128_i32 : BitVec 32 := 128#32
  let v203 : BitVec 32 := Scalar.muli arg11 c128_i32
  let v212 : Index := Scalar.indexCast v203
  let c4_100 : Index := 4#32
  ![v212.toNat, 4]

def k1_chk1 (arg11 : BitVec 32) : Prop :=
  (∀ a, (k1_off1 arg11) a + S128x1.size a ≤ S4096x8.size a) ∧
  (∀ a, (k1_off2 arg11) a + S128x1.size a ≤ S4096x8.size a) ∧
  (∀ a, (k1_off3 arg11) a + S128x1.size a ≤ S4096x8.size a) ∧
  (∀ a, (k1_off4 arg11) a + S128x1.size a ≤ S4096x8.size a) ∧
  (∀ a, (k1_off5 arg11) a + S128x1.size a ≤ S4096x8.size a)
theorem k1_off1_inb : ∀ (arg11 : BitVec 32) (k1_hw1 : k1_chk1 arg11), ∀ a, (k1_off1 arg11) a + S128x1.size a ≤ S4096x8.size a := fun arg11 k1_hw1 => k1_hw1.1
theorem k1_off2_inb : ∀ (arg11 : BitVec 32) (k1_hw1 : k1_chk1 arg11), ∀ a, (k1_off2 arg11) a + S128x1.size a ≤ S4096x8.size a := fun arg11 k1_hw1 => k1_hw1.2.1
theorem k1_off3_inb : ∀ (arg11 : BitVec 32) (k1_hw1 : k1_chk1 arg11), ∀ a, (k1_off3 arg11) a + S128x1.size a ≤ S4096x8.size a := fun arg11 k1_hw1 => k1_hw1.2.2.1
theorem k1_off4_inb : ∀ (arg11 : BitVec 32) (k1_hw1 : k1_chk1 arg11), ∀ a, (k1_off4 arg11) a + S128x1.size a ≤ S4096x8.size a := fun arg11 k1_hw1 => k1_hw1.2.2.2.1
theorem k1_off5_inb : ∀ (arg11 : BitVec 32) (k1_hw1 : k1_chk1 arg11), ∀ a, (k1_off5 arg11) a + S128x1.size a ≤ S4096x8.size a := fun arg11 k1_hw1 => k1_hw1.2.2.2.2

@[reducible] def k1_t1_loop : Scf.Loop 32 :=
  let c0_i32_106 : BitVec 32 := 0#32
  let c128_i32_107 : BitVec 32 := 128#32
  let v243 : BitVec 32 := Scalar.addi c0_i32_106 c128_i32_107
  let c1_i32 : BitVec 32 := 1#32
  ⟨c0_i32_106, v243, c1_i32⟩
def k1_off6 (k1_t1 : Fin k1_t1_loop.trips) : Fin 2 → Nat :=
  let c0_i32_106 : BitVec 32 := 0#32
  let c1_i32 : BitVec 32 := 1#32
  let arg14 : BitVec 32 := Scf.iv c0_i32_106 c1_i32 k1_t1
  let v256 : Index := Scalar.indexCast arg14
  let c0_113 : Index := 0#32
  ![v256.toNat, 0]
abbrev stage1_0 : Fin 1 → Memref sig .tc .vmem S4x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4096x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S20000x91 : Shape := ⟨2, ![20000, 91]⟩
abbrev S20000x364 : Shape := ⟨2, ![20000, 364]⟩
abbrev S20000x4 : Shape := ⟨2, ![20000, 4]⟩
abbrev S2 : Shape := ⟨1, ![2]⟩
abbrev S20000x1 : Shape := ⟨2, ![20000, 1]⟩
abbrev S20000 : Shape := ⟨1, ![20000]⟩
abbrev S_ : Shape := ⟨0, ![]⟩
abbrev S20000x91x4 : Shape := ⟨3, ![20000, 91, 4]⟩
abbrev S20000x91x1 : Shape := ⟨3, ![20000, 91, 1]⟩
abbrev S1 : Shape := ⟨1, ![1]⟩
abbrev S20000x90x4 : Shape := ⟨3, ![20000, 90, 4]⟩
abbrev S20000x90 : Shape := ⟨2, ![20000, 90]⟩
abbrev S90 : Shape := ⟨1, ![90]⟩
abbrev S1x90 : Shape := ⟨2, ![1, 90]⟩
abbrev S1800000x4 : Shape := ⟨2, ![1800000, 4]⟩
abbrev S1800000 : Shape := ⟨1, ![1800000]⟩
abbrev S4096 : Shape := ⟨1, ![4096]⟩
abbrev S4096x1 : Shape := ⟨2, ![4096, 1]⟩
abbrev S1x1 : Shape := ⟨2, ![1, 1]⟩
abbrev S4096x4 : Shape := ⟨2, ![4096, 4]⟩
abbrev S4096x2 : Shape := ⟨2, ![4096, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S4096x4096x1 : Shape := ⟨3, ![4096, 4096, 1]⟩
abbrev S4096x4096 : Shape := ⟨2, ![4096, 4096]⟩
abbrev S1x4096 : Shape := ⟨2, ![1, 4096]⟩
abbrev S100 : Shape := ⟨1, ![100]⟩
abbrev S100x1 : Shape := ⟨2, ![100, 1]⟩
abbrev S100x4 : Shape := ⟨2, ![100, 4]⟩

abbrev nBuf : Space → Nat
  | .hbm => 412
  | .vmem => 0
  | .smem => 0
  | _ => 0

abbrev hbmTy0_0 (i : Nat) : BufTy := match i % 128 with
  | 0 => ⟨S20000x91, .f32⟩
  | 1 => ⟨S20000x364, .f32⟩
  | 2 => ⟨S20000x4, .f32⟩
  | 3 => ⟨S2, .i32⟩
  | 4 => ⟨S20000x1, .f32⟩
  | 5 => ⟨S20000, .f32⟩
  | 6 => ⟨S20000x1, .f32⟩
  | 7 => ⟨S20000, .f32⟩
  | 8 => ⟨S20000, .f32⟩
  | 9 => ⟨S20000x1, .f32⟩
  | 10 => ⟨S20000, .f32⟩
  | 11 => ⟨S20000x1, .f32⟩
  | 12 => ⟨S20000, .f32⟩
  | 13 => ⟨S20000, .f32⟩
  | 14 => ⟨S20000x1, .f32⟩
  | 15 => ⟨S20000, .f32⟩
  | 16 => ⟨S_, .f32⟩
  | 17 => ⟨S20000, .f32⟩
  | 18 => ⟨S20000, .f32⟩
  | 19 => ⟨S20000, .f32⟩
  | 20 => ⟨S20000x1, .f32⟩
  | 21 => ⟨S20000, .f32⟩
  | 22 => ⟨S_, .f32⟩
  | 23 => ⟨S20000, .f32⟩
  | 24 => ⟨S20000, .f32⟩
  | 25 => ⟨S20000, .f32⟩
  | 26 => ⟨S20000x91x4, .f32⟩
  | 27 => ⟨S20000x91x1, .f32⟩
  | 28 => ⟨S20000x91, .f32⟩
  | 29 => ⟨S_, .f32⟩
  | 30 => ⟨S20000x91, .f32⟩
  | 31 => ⟨S20000x91, .f32⟩
  | 32 => ⟨S20000x91x1, .f32⟩
  | 33 => ⟨S20000x91, .f32⟩
  | 34 => ⟨S_, .f32⟩
  | 35 => ⟨S20000x91, .f32⟩
  | 36 => ⟨S20000x91, .f32⟩
  | 37 => ⟨S20000x91x1, .f32⟩
  | 38 => ⟨S20000x91, .f32⟩
  | 39 => ⟨S_, .f32⟩
  | 40 => ⟨S20000x91, .f32⟩
  | 41 => ⟨S20000x91, .f32⟩
  | 42 => ⟨S_, .f32⟩
  | 43 => ⟨S20000x91, .f32⟩
  | 44 => ⟨S20000x91, .f32⟩
  | 45 => ⟨S20000x91x1, .f32⟩
  | 46 => ⟨S20000x91, .f32⟩
  | 47 => ⟨S_, .f32⟩
  | 48 => ⟨S20000x91, .f32⟩
  | 49 => ⟨S20000x91, .f32⟩
  | 50 => ⟨S_, .f32⟩
  | 51 => ⟨S20000x91, .f32⟩
  | 52 => ⟨S20000x91, .f32⟩
  | 53 => ⟨S20000x1, .f32⟩
  | 54 => ⟨S20000x91, .f32⟩
  | 55 => ⟨S20000x91, .f32⟩
  | 56 => ⟨S20000x1, .f32⟩
  | 57 => ⟨S20000x91, .f32⟩
  | 58 => ⟨S20000x91, .f32⟩
  | 59 => ⟨S20000x1, .f32⟩
  | 60 => ⟨S20000x91, .f32⟩
  | 61 => ⟨S20000x91, .f32⟩
  | 62 => ⟨S20000x1, .f32⟩
  | 63 => ⟨S20000x91, .f32⟩
  | 64 => ⟨S20000x91, .f32⟩
  | 65 => ⟨S20000x91, .f32⟩
  | 66 => ⟨S20000x1, .f32⟩
  | 67 => ⟨S20000x91, .f32⟩
  | 68 => ⟨S20000x91, .f32⟩
  | 69 => ⟨S20000x91, .f32⟩
  | 70 => ⟨S20000x1, .f32⟩
  | 71 => ⟨S20000x91, .f32⟩
  | 72 => ⟨S20000x91, .f32⟩
  | 73 => ⟨S_, .f32⟩
  | 74 => ⟨S20000x91, .f32⟩
  | 75 => ⟨S20000x91, .f32⟩
  | 76 => ⟨S20000x91, .f32⟩
  | 77 => ⟨S_, .f32⟩
  | 78 => ⟨S20000x91, .f32⟩
  | 79 => ⟨S20000x91, .f32⟩
  | 80 => ⟨S20000x91, .f32⟩
  | 81 => ⟨S_, .f32⟩
  | 82 => ⟨S20000x91, .f32⟩
  | 83 => ⟨S20000x91, .f32⟩
  | 84 => ⟨S20000x91, .f32⟩
  | 85 => ⟨S_, .f32⟩
  | 86 => ⟨S20000x91, .f32⟩
  | 87 => ⟨S20000x91, .f32⟩
  | 88 => ⟨S20000x91, .f32⟩
  | 89 => ⟨S20000x91x1, .f32⟩
  | 90 => ⟨S20000x91x1, .f32⟩
  | 91 => ⟨S20000x91x1, .f32⟩
  | 92 => ⟨S20000x91x1, .f32⟩
  | 93 => ⟨S20000x91x4, .f32⟩
  | 94 => ⟨S1, .i32⟩
  | 95 => ⟨S_, .i32⟩
  | 96 => ⟨S_, .f32⟩
  | 97 => ⟨S1, .i32⟩
  | 98 => ⟨S_, .i32⟩
  | 99 => ⟨S_, .f32⟩
  | 100 => ⟨S20000x91x1, .f32⟩
  | 101 => ⟨S20000x91, .f32⟩
  | 102 => ⟨S_, .f32⟩
  | 103 => ⟨S_, .f32⟩
  | 104 => ⟨S20000x91, .f32⟩
  | 105 => ⟨S20000x91, .f32⟩
  | 106 => ⟨S20000x91, .f32⟩
  | 107 => ⟨S20000x91, .f32⟩
  | 108 => ⟨S20000x91x1, .f32⟩
  | 109 => ⟨S20000x91, .f32⟩
  | 110 => ⟨S_, .f32⟩
  | 111 => ⟨S_, .f32⟩
  | 112 => ⟨S20000x91, .f32⟩
  | 113 => ⟨S20000x91, .f32⟩
  | 114 => ⟨S20000x91, .f32⟩
  | 115 => ⟨S20000x91, .f32⟩
  | 116 => ⟨S20000x91x1, .f32⟩
  | 117 => ⟨S20000x91, .f32⟩
  | 118 => ⟨S_, .f32⟩
  | 119 => ⟨S_, .f32⟩
  | 120 => ⟨S20000x91, .f32⟩
  | 121 => ⟨S20000x91, .f32⟩
  | 122 => ⟨S20000x91, .f32⟩
  | 123 => ⟨S20000x91, .f32⟩
  | 124 => ⟨S20000x91x1, .f32⟩
  | 125 => ⟨S20000x91, .f32⟩
  | 126 => ⟨S_, .f32⟩
  | 127 => ⟨S_, .f32⟩
  | _ => ⟨S20000x91, .f32⟩

abbrev hbmTy0_1 (i : Nat) : BufTy := match i % 128 with
  | 0 => ⟨S20000x91, .f32⟩
  | 1 => ⟨S20000x91, .f32⟩
  | 2 => ⟨S20000x91, .f32⟩
  | 3 => ⟨S20000x91, .f32⟩
  | 4 => ⟨S20000x91x1, .f32⟩
  | 5 => ⟨S20000x91x1, .f32⟩
  | 6 => ⟨S20000x91x1, .f32⟩
  | 7 => ⟨S20000x91x1, .f32⟩
  | 8 => ⟨S20000x91x4, .f32⟩
  | 9 => ⟨S_, .f32⟩
  | 10 => ⟨S20000, .f32⟩
  | 11 => ⟨S_, .f32⟩
  | 12 => ⟨S20000, .f32⟩
  | 13 => ⟨S20000, .f32⟩
  | 14 => ⟨S20000x1, .f32⟩
  | 15 => ⟨S20000x91, .f32⟩
  | 16 => ⟨S20000x91, .f32⟩
  | 17 => ⟨S20000x91, .f32⟩
  | 18 => ⟨S_, .f32⟩
  | 19 => ⟨S20000, .f32⟩
  | 20 => ⟨S20000x1, .f32⟩
  | 21 => ⟨S20000x91, .f32⟩
  | 22 => ⟨S20000x91, .f32⟩
  | 23 => ⟨S20000x90x4, .f32⟩
  | 24 => ⟨S20000x90, .f32⟩
  | 25 => ⟨S90, .i32⟩
  | 26 => ⟨S_, .i32⟩
  | 27 => ⟨S90, .i32⟩
  | 28 => ⟨S90, .i32⟩
  | 29 => ⟨S1x90, .i32⟩
  | 30 => ⟨S20000x90, .i32⟩
  | 31 => ⟨S1800000x4, .f32⟩
  | 32 => ⟨S1800000, .f32⟩
  | 33 => ⟨S1800000, .i32⟩
  | 34 => ⟨S_, .f32⟩
  | 35 => ⟨S1800000, .f32⟩
  | 36 => ⟨S1800000, .i1⟩
  | 37 => ⟨S_, .f32⟩
  | 38 => ⟨S_, .f32⟩
  | 39 => ⟨S1800000, .f32⟩
  | 40 => ⟨S1800000, .f32⟩
  | 41 => ⟨S4096, .f32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S1, .i32⟩
  | 52 => ⟨S_, .i32⟩
  | 53 => ⟨S4096x1, .i32⟩
  | 54 => ⟨S4096x1, .i1⟩
  | 55 => ⟨S1x1, .i32⟩
  | 56 => ⟨S4096x1, .i32⟩
  | 57 => ⟨S4096x1, .i1⟩
  | 58 => ⟨S4096x1, .i1⟩
  | 59 => ⟨S_, .i1⟩
  | 60 => ⟨S4096, .i1⟩
  | 61 => ⟨S4096x4, .f32⟩
  | 62 => ⟨S4096x4, .i1⟩
  | 63 => ⟨S_, .f32⟩
  | 64 => ⟨S4096x4, .f32⟩
  | 65 => ⟨S4096x4, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S1, .i32⟩
  | 75 => ⟨S_, .i32⟩
  | 76 => ⟨S4096x1, .i32⟩
  | 77 => ⟨S4096x1, .i1⟩
  | 78 => ⟨S1x1, .i32⟩
  | 79 => ⟨S4096x1, .i32⟩
  | 80 => ⟨S4096x1, .i1⟩
  | 81 => ⟨S4096x1, .i1⟩
  | 82 => ⟨S_, .i1⟩
  | 83 => ⟨S4096, .i1⟩
  | 84 => ⟨S4096, .f32⟩
  | 85 => ⟨S_, .f32⟩
  | 86 => ⟨S4096, .f32⟩
  | 87 => ⟨S4096, .f32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S1, .i32⟩
  | 97 => ⟨S_, .i32⟩
  | 98 => ⟨S4096x1, .i32⟩
  | 99 => ⟨S4096x1, .i1⟩
  | 100 => ⟨S1x1, .i32⟩
  | 101 => ⟨S4096x1, .i32⟩
  | 102 => ⟨S4096x1, .i1⟩
  | 103 => ⟨S4096x1, .i1⟩
  | 104 => ⟨S_, .i1⟩
  | 105 => ⟨S4096, .i1⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S1, .i32⟩
  | 119 => ⟨S_, .i32⟩
  | 120 => ⟨S4096x1, .i32⟩
  | 121 => ⟨S4096x1, .i1⟩
  | 122 => ⟨S1x1, .i32⟩
  | 123 => ⟨S4096x1, .i32⟩
  | 124 => ⟨S4096x1, .i1⟩
  | 125 => ⟨S4096x1, .i1⟩
  | 126 => ⟨S_, .i1⟩
  | 127 => ⟨S4096, .i1⟩
  | _ => ⟨S20000x91, .f32⟩

abbrev hbmTy0_2 (i : Nat) : BufTy := match i % 128 with
  | 0 => ⟨S4096, .i1⟩
  | 1 => ⟨S_, .i1⟩
  | 2 => ⟨S4096, .i1⟩
  | 3 => ⟨S4096, .i1⟩
  | 4 => ⟨S4096, .f32⟩
  | 5 => ⟨S_, .f32⟩
  | 6 => ⟨S4096, .f32⟩
  | 7 => ⟨S4096, .f32⟩
  | 8 => ⟨S4096x1, .f32⟩
  | 9 => ⟨S4096x4, .f32⟩
  | 10 => ⟨S4096x4, .f32⟩
  | 11 => ⟨S4096x1, .f32⟩
  | 12 => ⟨S4096, .f32⟩
  | 13 => ⟨S4096x1, .f32⟩
  | 14 => ⟨S4096, .f32⟩
  | 15 => ⟨S4096, .f32⟩
  | 16 => ⟨S4096x1, .f32⟩
  | 17 => ⟨S4096, .f32⟩
  | 18 => ⟨S4096x1, .f32⟩
  | 19 => ⟨S4096, .f32⟩
  | 20 => ⟨S4096, .f32⟩
  | 21 => ⟨S4096, .f32⟩
  | 22 => ⟨S4096x2, .f32⟩
  | 23 => ⟨S4096x1x2, .f32⟩
  | 24 => ⟨S4096x2, .f32⟩
  | 25 => ⟨S1x4096x2, .f32⟩
  | 26 => ⟨S4096x4096x2, .f32⟩
  | 27 => ⟨S4096x4096x2, .f32⟩
  | 28 => ⟨S4096x4096x2, .f32⟩
  | 29 => ⟨S4096x2, .f32⟩
  | 30 => ⟨S4096x1x2, .f32⟩
  | 31 => ⟨S4096x2, .f32⟩
  | 32 => ⟨S1x4096x2, .f32⟩
  | 33 => ⟨S4096x4096x2, .f32⟩
  | 34 => ⟨S4096x4096x2, .f32⟩
  | 35 => ⟨S4096x4096x2, .f32⟩
  | 36 => ⟨S4096x4096x2, .f32⟩
  | 37 => ⟨S_, .f32⟩
  | 38 => ⟨S_, .f32⟩
  | 39 => ⟨S4096x4096x2, .f32⟩
  | 40 => ⟨S4096x4096x2, .f32⟩
  | 41 => ⟨S4096x4096x1, .f32⟩
  | 42 => ⟨S4096x4096, .f32⟩
  | 43 => ⟨S4096x4096x1, .f32⟩
  | 44 => ⟨S4096x4096, .f32⟩
  | 45 => ⟨S4096x4096, .f32⟩
  | 46 => ⟨S4096x1, .f32⟩
  | 47 => ⟨S1x4096, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S4096, .i32⟩
  | 57 => ⟨S_, .i32⟩
  | 58 => ⟨S_, .i32⟩
  | 59 => ⟨S4096x4096, .f32⟩
  | 60 => ⟨S4096, .i32⟩
  | 61 => ⟨S_, .i32⟩
  | 62 => ⟨S_, .i32⟩
  | 63 => ⟨S4096, .i1⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x4096, .f32⟩
  | 83 => ⟨S4096, .f32⟩
  | 84 => ⟨S_, .f32⟩
  | 85 => ⟨S4096, .f32⟩
  | 86 => ⟨S4096, .i1⟩
  | 87 => ⟨S_, .i32⟩
  | 88 => ⟨S4096, .i32⟩
  | 89 => ⟨S4096, .i1⟩
  | 90 => ⟨S4096, .i1⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1, .i1⟩
  | 98 => ⟨S_, .i1⟩
  | 99 => ⟨S4096, .i1⟩
  | 100 => ⟨S4096, .i1⟩
  | 101 => ⟨S4096, .i1⟩
  | 102 => ⟨S4096, .i1⟩
  | 103 => ⟨S_, .i32⟩
  | 104 => ⟨S_, .i32⟩
  | 105 => ⟨S_, .f32⟩
  | 106 => ⟨S_, .f32⟩
  | 107 => ⟨S4096, .f32⟩
  | 108 => ⟨S4096, .f32⟩
  | 109 => ⟨S100, .f32⟩
  | 110 => ⟨S100, .i32⟩
  | 111 => ⟨S_, .i32⟩
  | 112 => ⟨S100, .i32⟩
  | 113 => ⟨S100, .i1⟩
  | 114 => ⟨S_, .i32⟩
  | 115 => ⟨S100, .i32⟩
  | 116 => ⟨S100, .i32⟩
  | 117 => ⟨S100, .i32⟩
  | 118 => ⟨S100x1, .i32⟩
  | 119 => ⟨S1, .i32⟩
  | 120 => ⟨S_, .i32⟩
  | 121 => ⟨S100x1, .i32⟩
  | 122 => ⟨S100x1, .i1⟩
  | 123 => ⟨S1x1, .i32⟩
  | 124 => ⟨S100x1, .i32⟩
  | 125 => ⟨S100x1, .i1⟩
  | 126 => ⟨S100x1, .i1⟩
  | 127 => ⟨S_, .i1⟩
  | _ => ⟨S20000x91, .f32⟩

abbrev hbmTy0_3 (i : Nat) : BufTy := match i % 128 with
  | 0 => ⟨S100, .i1⟩
  | 1 => ⟨S100x4, .f32⟩
  | 2 => ⟨S100x4, .i1⟩
  | 3 => ⟨S_, .f32⟩
  | 4 => ⟨S100x4, .f32⟩
  | 5 => ⟨S100x4, .f32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S1, .i32⟩
  | 15 => ⟨S_, .i32⟩
  | 16 => ⟨S100x1, .i32⟩
  | 17 => ⟨S100x1, .i1⟩
  | 18 => ⟨S1x1, .i32⟩
  | 19 => ⟨S100x1, .i32⟩
  | 20 => ⟨S100x1, .i1⟩
  | 21 => ⟨S100x1, .i1⟩
  | 22 => ⟨S_, .i1⟩
  | 23 => ⟨S100, .i1⟩
  | 24 => ⟨S100, .i32⟩
  | 25 => ⟨S_, .i32⟩
  | 26 => ⟨S100, .i32⟩
  | 27 => ⟨S100, .i32⟩
  | _ => ⟨S20000x91, .f32⟩

abbrev hbmTy (i : Nat) : BufTy := match i / 128 with
  | 0 => hbmTy0_0 i
  | 1 => hbmTy0_1 i
  | 2 => hbmTy0_2 i
  | 3 => hbmTy0_3 i
  | _ => ⟨S20000x91, .f32⟩

abbrev bufTy : (tb : Table) → Fin (tcTables nBuf tb) → BufTy
  | .hbm, ⟨i, _⟩ => hbmTy i
  | _, _ => ⟨S20000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_11 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_14 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_15 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_18 : Ref sig .tc := ⟨.hbm, 162, rfl⟩
abbrev main_v122 : Ref sig .tc := ⟨.hbm, 163, rfl⟩
abbrev main_v123 : Ref sig .tc := ⟨.hbm, 164, rfl⟩
abbrev main_cst_19 : Ref sig .tc := ⟨.hbm, 165, rfl⟩
abbrev main_call4_v0 : Ref sig .tc := ⟨.hbm, 166, rfl⟩
abbrev main_call4_v1 : Ref sig .tc := ⟨.hbm, 167, rfl⟩
abbrev main_v124 : Ref sig .tc := ⟨.hbm, 168, rfl⟩
abbrev main_values : Ref sig .tc := ⟨.hbm, 169, rfl⟩
abbrev main_indices : Ref sig .tc := ⟨.hbm, 170, rfl⟩
abbrev main_call5_c : Ref sig .tc := ⟨.hbm, 171, rfl⟩
abbrev main_call5_v0 : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_c_1 : Ref sig .tc := ⟨.hbm, 179, rfl⟩
abbrev main_call5_c_2 : Ref sig .tc := ⟨.hbm, 180, rfl⟩
abbrev main_call5_v6 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_c_3 : Ref sig .tc := ⟨.hbm, 187, rfl⟩
abbrev main_call5_v12 : Ref sig .tc := ⟨.hbm, 188, rfl⟩
abbrev main_call5_v13 : Ref sig .tc := ⟨.hbm, 189, rfl⟩
abbrev main_call5_v14 : Ref sig .tc := ⟨.hbm, 190, rfl⟩
abbrev main_call5_cst : Ref sig .tc := ⟨.hbm, 191, rfl⟩
abbrev main_call5_v15 : Ref sig .tc := ⟨.hbm, 192, rfl⟩
abbrev main_v125 : Ref sig .tc := ⟨.hbm, 193, rfl⟩
abbrev main_call6_c : Ref sig .tc := ⟨.hbm, 194, rfl⟩
abbrev main_call6_v0 : Ref sig .tc := ⟨.hbm, 195, rfl⟩
abbrev main_call6_v1 : Ref sig .tc := ⟨.hbm, 196, rfl⟩
abbrev main_call6_c_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_c_1 : Ref sig .tc := ⟨.hbm, 202, rfl⟩
abbrev main_call6_c_2 : Ref sig .tc := ⟨.hbm, 203, rfl⟩
abbrev main_call6_v6 : Ref sig .tc := ⟨.hbm, 204, rfl⟩
abbrev main_call6_v7 : Ref sig .tc := ⟨.hbm, 205, rfl⟩
abbrev main_call6_v8 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_c_3 : Ref sig .tc := ⟨.hbm, 210, rfl⟩
abbrev main_call6_v12 : Ref sig .tc := ⟨.hbm, 211, rfl⟩
abbrev main_call6_v13 : Ref sig .tc := ⟨.hbm, 212, rfl⟩
abbrev main_call6_cst : Ref sig .tc := ⟨.hbm, 213, rfl⟩
abbrev main_call6_v14 : Ref sig .tc := ⟨.hbm, 214, rfl⟩
abbrev main_v126 : Ref sig .tc := ⟨.hbm, 215, rfl⟩
abbrev main_call7_c : Ref sig .tc := ⟨.hbm, 216, rfl⟩
abbrev main_call7_v0 : Ref sig .tc := ⟨.hbm, 217, rfl⟩
abbrev main_call7_v1 : Ref sig .tc := ⟨.hbm, 218, rfl⟩
abbrev main_call7_c_0 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_v5 : Ref sig .tc := ⟨.hbm, 223, rfl⟩
abbrev main_call7_c_1 : Ref sig .tc := ⟨.hbm, 224, rfl⟩
abbrev main_call7_c_2 : Ref sig .tc := ⟨.hbm, 225, rfl⟩
abbrev main_call7_v6 : Ref sig .tc := ⟨.hbm, 226, rfl⟩
abbrev main_call7_v7 : Ref sig .tc := ⟨.hbm, 227, rfl⟩
abbrev main_call7_v8 : Ref sig .tc := ⟨.hbm, 228, rfl⟩
abbrev main_call7_v9 : Ref sig .tc := ⟨.hbm, 229, rfl⟩
abbrev main_call7_v10 : Ref sig .tc := ⟨.hbm, 230, rfl⟩
abbrev main_call7_v11 : Ref sig .tc := ⟨.hbm, 231, rfl⟩
abbrev main_call7_c_3 : Ref sig .tc := ⟨.hbm, 232, rfl⟩
abbrev main_call7_v12 : Ref sig .tc := ⟨.hbm, 233, rfl⟩
abbrev main_call7_v13 : Ref sig .tc := ⟨.hbm, 234, rfl⟩
abbrev main_call7_c_4 : Ref sig .tc := ⟨.hbm, 235, rfl⟩
abbrev main_call7_v14 : Ref sig .tc := ⟨.hbm, 236, rfl⟩
abbrev main_v127 : Ref sig .tc := ⟨.hbm, 237, rfl⟩
abbrev main_call8_c : Ref sig .tc := ⟨.hbm, 238, rfl⟩
abbrev main_call8_v0 : Ref sig .tc := ⟨.hbm, 239, rfl⟩
abbrev main_call8_v1 : Ref sig .tc := ⟨.hbm, 240, rfl⟩
abbrev main_call8_c_0 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_call8_v5 : Ref sig .tc := ⟨.hbm, 245, rfl⟩
abbrev main_call8_c_1 : Ref sig .tc := ⟨.hbm, 246, rfl⟩
abbrev main_call8_c_2 : Ref sig .tc := ⟨.hbm, 247, rfl⟩
abbrev main_call8_v6 : Ref sig .tc := ⟨.hbm, 248, rfl⟩
abbrev main_call8_v7 : Ref sig .tc := ⟨.hbm, 249, rfl⟩
abbrev main_call8_v8 : Ref sig .tc := ⟨.hbm, 250, rfl⟩
abbrev main_call8_v9 : Ref sig .tc := ⟨.hbm, 251, rfl⟩
abbrev main_call8_v10 : Ref sig .tc := ⟨.hbm, 252, rfl⟩
abbrev main_call8_v11 : Ref sig .tc := ⟨.hbm, 253, rfl⟩
abbrev main_call8_c_3 : Ref sig .tc := ⟨.hbm, 254, rfl⟩
abbrev main_call8_v12 : Ref sig .tc := ⟨.hbm, 255, rfl⟩
abbrev main_call8_v13 : Ref sig .tc := ⟨.hbm, 256, rfl⟩
abbrev main_call8_c_4 : Ref sig .tc := ⟨.hbm, 257, rfl⟩
abbrev main_call8_v14 : Ref sig .tc := ⟨.hbm, 258, rfl⟩
abbrev main_v128 : Ref sig .tc := ⟨.hbm, 259, rfl⟩
abbrev main_v129 : Ref sig .tc := ⟨.hbm, 260, rfl⟩
abbrev main_cst_20 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_cst_21 : Ref sig .tc := ⟨.hbm, 293, rfl⟩
abbrev main_call9_v0 : Ref sig .tc := ⟨.hbm, 294, rfl⟩
abbrev main_call9_v1 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_v169 : Ref sig .tc := ⟨.hbm, 304, rfl⟩
abbrev main_v170 : Ref sig .tc := ⟨.hbm, 305, rfl⟩
abbrev main_v171 : Ref sig .tc := ⟨.hbm, 306, rfl⟩
abbrev main_v172 : Ref sig .tc := ⟨.hbm, 307, rfl⟩
abbrev main_cst_22 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_c_23 : Ref sig .tc := ⟨.hbm, 313, rfl⟩
abbrev main_c_24 : Ref sig .tc := ⟨.hbm, 314, rfl⟩
abbrev main_v177_0 : Ref sig .tc := ⟨.hbm, 315, rfl⟩
abbrev main_v177_1 : Ref sig .tc := ⟨.hbm, 316, rfl⟩
abbrev main_v177_2 : Ref sig .tc := ⟨.hbm, 317, rfl⟩
abbrev main_v177_3 : Ref sig .tc := ⟨.hbm, 318, rfl⟩
abbrev main_v177_4 : Ref sig .tc := ⟨.hbm, 319, rfl⟩
abbrev main_while0c_c_32 : Ref sig .tc := ⟨.hbm, 320, rfl⟩
abbrev main_while0c_v181 : Ref sig .tc := ⟨.hbm, 321, rfl⟩
abbrev main_while0b_c_32 : Ref sig .tc := ⟨.hbm, 322, rfl⟩
abbrev main_while0b_v181 : Ref sig .tc := ⟨.hbm, 323, rfl⟩
abbrev main_while0b_v182 : Ref sig .tc := ⟨.hbm, 324, rfl⟩
abbrev main_while0b_c_33 : Ref sig .tc := ⟨.hbm, 325, rfl⟩
abbrev main_while0b_v183 : Ref sig .tc := ⟨.hbm, 326, rfl⟩
abbrev main_while0b_c_34 : Ref sig .tc := ⟨.hbm, 327, rfl⟩
abbrev main_while0b_v184 : Ref sig .tc := ⟨.hbm, 328, rfl⟩
abbrev main_while0b_v185 : Ref sig .tc := ⟨.hbm, 329, rfl⟩
abbrev main_while0b_c_35 : Ref sig .tc := ⟨.hbm, 330, rfl⟩
abbrev main_while0b_c_36 : Ref sig .tc := ⟨.hbm, 331, rfl⟩
abbrev main_while0b_v186 : Ref sig .tc := ⟨.hbm, 332, rfl⟩
abbrev main_while0b_c_37 : Ref sig .tc := ⟨.hbm, 333, rfl⟩
abbrev main_while0b_c_38 : Ref sig .tc := ⟨.hbm, 334, rfl⟩
abbrev main_while0b_v187 : Ref sig .tc := ⟨.hbm, 335, rfl⟩
abbrev main_while0b_c_39 : Ref sig .tc := ⟨.hbm, 336, rfl⟩
abbrev main_while0b_v188 : Ref sig .tc := ⟨.hbm, 337, rfl⟩
abbrev main_while0b_v189 : Ref sig .tc := ⟨.hbm, 338, rfl⟩
abbrev main_while0b_v190 : Ref sig .tc := ⟨.hbm, 339, rfl⟩
abbrev main_while0b_cst_40 : Ref sig .tc := ⟨.hbm, 340, rfl⟩
abbrev main_while0b_v191 : Ref sig .tc := ⟨.hbm, 341, rfl⟩
abbrev main_while0b_v192 : Ref sig .tc := ⟨.hbm, 342, rfl⟩
abbrev main_while0b_v193 : Ref sig .tc := ⟨.hbm, 343, rfl⟩
abbrev main_while0b_v194 : Ref sig .tc := ⟨.hbm, 344, rfl⟩
abbrev main_while0b_v195 : Ref sig .tc := ⟨.hbm, 345, rfl⟩
abbrev main_while0b_v196 : Ref sig .tc := ⟨.hbm, 346, rfl⟩
abbrev main_while0b_c_41 : Ref sig .tc := ⟨.hbm, 347, rfl⟩
abbrev main_while0b_v197 : Ref sig .tc := ⟨.hbm, 348, rfl⟩
abbrev main_while0b_v198 : Ref sig .tc := ⟨.hbm, 349, rfl⟩
abbrev main_while0b_c_42 : Ref sig .tc := ⟨.hbm, 350, rfl⟩
abbrev main_while0b_v199 : Ref sig .tc := ⟨.hbm, 351, rfl⟩
abbrev main_while0b_v200 : Ref sig .tc := ⟨.hbm, 352, rfl⟩
abbrev main_while0b_v201 : Ref sig .tc := ⟨.hbm, 353, rfl⟩
abbrev main_while0b_v202 : Ref sig .tc := ⟨.hbm, 354, rfl⟩
abbrev main_while0b_v203 : Ref sig .tc := ⟨.hbm, 355, rfl⟩
abbrev main_while0b_v204 : Ref sig .tc := ⟨.hbm, 356, rfl⟩
abbrev main_while0b_v205 : Ref sig .tc := ⟨.hbm, 357, rfl⟩
abbrev main_while0b_v206 : Ref sig .tc := ⟨.hbm, 358, rfl⟩
abbrev main_while0b_c_43 : Ref sig .tc := ⟨.hbm, 359, rfl⟩
abbrev main_while0b_v207 : Ref sig .tc := ⟨.hbm, 360, rfl⟩
abbrev main_cst_25 : Ref sig .tc := ⟨.hbm, 361, rfl⟩
abbrev main_call10_v0 : Ref sig .tc := ⟨.hbm, 362, rfl⟩
abbrev main_call10_v1 : Ref sig .tc := ⟨.hbm, 363, rfl⟩
abbrev main_v178 : Ref sig .tc := ⟨.hbm, 364, rfl⟩
abbrev main_values_26 : Ref sig .tc := ⟨.hbm, 365, rfl⟩
abbrev main_indices_27 : Ref sig .tc := ⟨.hbm, 366, rfl⟩
abbrev main_call11_c : Ref sig .tc := ⟨.hbm, 367, rfl⟩
abbrev main_call11_v0 : Ref sig .tc := ⟨.hbm, 368, rfl⟩
abbrev main_call11_v1 : Ref sig .tc := ⟨.hbm, 369, rfl⟩
abbrev main_call11_c_0 : Ref sig .tc := ⟨.hbm, 370, rfl⟩
abbrev main_call11_v2 : Ref sig .tc := ⟨.hbm, 371, rfl⟩
abbrev main_call11_v3 : Ref sig .tc := ⟨.hbm, 372, rfl⟩
abbrev main_call11_v4 : Ref sig .tc := ⟨.hbm, 373, rfl⟩
abbrev main_call11_v5 : Ref sig .tc := ⟨.hbm, 374, rfl⟩
abbrev main_call11_c_1 : Ref sig .tc := ⟨.hbm, 375, rfl⟩
abbrev main_call11_c_2 : Ref sig .tc := ⟨.hbm, 376, rfl⟩
abbrev main_call11_v6 : Ref sig .tc := ⟨.hbm, 377, rfl⟩
abbrev main_call11_v7 : Ref sig .tc := ⟨.hbm, 378, rfl⟩
abbrev main_call11_v8 : Ref sig .tc := ⟨.hbm, 379, rfl⟩
abbrev main_call11_v9 : Ref sig .tc := ⟨.hbm, 380, rfl⟩
abbrev main_call11_v10 : Ref sig .tc := ⟨.hbm, 381, rfl⟩
abbrev main_call11_v11 : Ref sig .tc := ⟨.hbm, 382, rfl⟩
abbrev main_call11_c_3 : Ref sig .tc := ⟨.hbm, 383, rfl⟩
abbrev main_call11_v12 : Ref sig .tc := ⟨.hbm, 384, rfl⟩
abbrev main_call11_v13 : Ref sig .tc := ⟨.hbm, 385, rfl⟩
abbrev main_call11_v14 : Ref sig .tc := ⟨.hbm, 386, rfl⟩
abbrev main_call11_cst : Ref sig .tc := ⟨.hbm, 387, rfl⟩
abbrev main_call11_v15 : Ref sig .tc := ⟨.hbm, 388, rfl⟩
abbrev main_v179 : Ref sig .tc := ⟨.hbm, 389, rfl⟩
abbrev main_call12_c : Ref sig .tc := ⟨.hbm, 390, rfl⟩
abbrev main_call12_v0 : Ref sig .tc := ⟨.hbm, 391, rfl⟩
abbrev main_call12_v1 : Ref sig .tc := ⟨.hbm, 392, rfl⟩
abbrev main_call12_c_0 : Ref sig .tc := ⟨.hbm, 393, rfl⟩
abbrev main_call12_v2 : Ref sig .tc := ⟨.hbm, 394, rfl⟩
abbrev main_call12_v3 : Ref sig .tc := ⟨.hbm, 395, rfl⟩
abbrev main_call12_v4 : Ref sig .tc := ⟨.hbm, 396, rfl⟩
abbrev main_call12_v5 : Ref sig .tc := ⟨.hbm, 397, rfl⟩
abbrev main_call12_c_1 : Ref sig .tc := ⟨.hbm, 398, rfl⟩
abbrev main_call12_c_2 : Ref sig .tc := ⟨.hbm, 399, rfl⟩
abbrev main_call12_v6 : Ref sig .tc := ⟨.hbm, 400, rfl⟩
abbrev main_call12_v7 : Ref sig .tc := ⟨.hbm, 401, rfl⟩
abbrev main_call12_v8 : Ref sig .tc := ⟨.hbm, 402, rfl⟩
abbrev main_call12_v9 : Ref sig .tc := ⟨.hbm, 403, rfl⟩
abbrev main_call12_v10 : Ref sig .tc := ⟨.hbm, 404, rfl⟩
abbrev main_call12_v11 : Ref sig .tc := ⟨.hbm, 405, rfl⟩
abbrev main_call12_c_3 : Ref sig .tc := ⟨.hbm, 406, rfl⟩
abbrev main_call12_v12 : Ref sig .tc := ⟨.hbm, 407, rfl⟩
abbrev main_call12_v13 : Ref sig .tc := ⟨.hbm, 408, rfl⟩
abbrev main_call12_c_4 : Ref sig .tc := ⟨.hbm, 409, rfl⟩
abbrev main_call12_v14 : Ref sig .tc := ⟨.hbm, 410, rfl⟩
abbrev main_v180 : Ref sig .tc := ⟨.hbm, 411, rfl⟩

abbrev nD : Nat := 1
abbrev τ : Topo := Topo.v7x

variable {F : FTy → Type} [FloatOps F]

abbrev main_while0_count : Scf.Loop 32 := ⟨0#32, 4096#32, 1#32⟩
-- ==== Proof.KI.Soft.lean ====
/-
  The first kernel region (`cc0__softmax_mask_kernel`, ten points of 2000 rows each): its body run once over a symbolic
  point, its proof data at an entry valuation, and its body obligation. The block of scores a point leaves is the payload
  of its one store on the block of logits it fetched.
-/
module

public import proofs.«01_k».proof.Proof.Gen.KernelIdeal.Launch
public import proofs.«01_k».proof.Proof.Gen.KernelIdeal.Loops
public import proofs.«01_k».proof.Proof.Gen.KernelIdeal.Regions
public import proofs.«01_k».proof.Proof.Gen.KernelIdeal.Points
public import Idealize.ShloMosaic.Lib.Pipeline.RegionsLoop
public import Idealize.ShloMosaic.Lib.Tactic

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipelines' rounds. -/
local notation "𝕄" => MT nD τ sig Unit (Elt F) ℕ (UR sig nD τ) ℕ

/-- The variants: natural numbers, which the second kernel's loop decreases. -/
abbrev 𝒱₀ : Variants := Variants.nat

/-- The whole block read or written through the store's rectangle. -/
abbrev rIn : Rect S2000x91 := Rect.unit (s := S2000x91) ![0, 0] S2000x91.size inb_S2000x91_S2000x91_0_0
abbrev rOut : Rect S2000x90 := Rect.unit (s := S2000x90) ![0, 0] S2000x90.size inb_S2000x90_S2000x90_0_0

/-- The body of one point, from both staging buffers held whole: it hands back the logits' as they were and the scores'
    at the payload of the store. -/
theorem soft_run (c : Dev nD) (i : grid0.Coords) (M0 : Memref sig .tc .vmem S2000x91 .f32) (h0 : M0.IsWhole)
    (M1 : Memref sig .tc .vmem S2000x90 .f32) (h1 : M1.IsWhole)
    (f0 : Buf (Elt F) (M0.view.loc (c : Thread nD τ))) (f1 : Buf (Elt F) (M1.view.loc (c : Thread nD τ))) (E : Set ℕ) (Q : PUnit → sProp 𝕄) :
    iprop((M0.view.loc (c : Thread nD τ) ↦{fullShare} f0) ∗ (M1.view.loc (c : Thread nD τ) ↦{fullShare} f1)
        ∗ (iprop((M0.view.loc (c : Thread nD τ) ↦{fullShare} f0)
            ∗ (M1.view.loc (c : Thread nD τ) ↦{fullShare} (M1.access rOut : View sig .tc _ _ _).write (Elt F) f1
                (k0_pay1 ((M0.access rIn : View sig .tc _ _ _).read (Elt F) f0)) Finset.univ)) -∗ Q ⟨⟩))
      ⊢ wp frame (wpE (defs₀ (F := F)) 𝒱₀ c none) E (cc0__softmax_mask_kernel i M0 h0 M1 h1) Q := by
  simp only [cc0__softmax_mask_kernel_eq_skeleton]; unfold cc0__softmax_mask_kernel_skel
  simp only [Prog.lift, Prog.bind_op, Prog.bind_ret, Prog.pure_eq_ret]
  iintro ⟨H0, H1, Hk⟩
  iapply (wp_load 𝒱₀ (c : Thread nD τ) none E (m := M0) (Finset.subset_univ _)) $$ H0; iintro H0
  iapply (wp_load 𝒱₀ (c : Thread nD τ) none E (m := M1) (Finset.subset_univ _)) $$ H1; iintro H1
  iapply (wp_store 𝒱₀ (c : Thread nD τ) none E (m := M1) (r := rOut) (Mk := Finset.univ) (Finset.subset_univ _)) $$ H1; iintro H1
  rw [wp_ret]; imodintro
  iapply Hk
  isplitl [H0]; · iexact H0
  iexact H1

/-- The two accesses of the body are of the whole buffers: what the first reads is the contents, what the store leaves the payload. -/
theorem rd_00 (f : S2000x91.Idx → Elt F .f32) : ((Memref.whole cc0_stg0_0).access rIn : View sig .tc _ _ _).read (Elt F) f = f :=
  Memref.read_access_unit_zero (Elt F) cc0_stg0_0 (funext fun a => by fin_cases a <;> rfl) _ f

theorem rd_01 (f : S2000x91.Idx → Elt F .f32) : ((Memref.whole cc0_stg0_1).access rIn : View sig .tc _ _ _).read (Elt F) f = f :=
  Memref.read_access_unit_zero (Elt F) cc0_stg0_1 (funext fun a => by fin_cases a <;> rfl) _ f

theorem wr_10 (f w : S2000x90.Idx → Elt F .f32) : ((Memref.whole cc0_stg1_0).access rOut : View sig .tc _ _ _).write (Elt F) f w Finset.univ = w :=
  Memref.write_access_unit_zero_univ (Elt F) cc0_stg1_0 (funext fun a => by fin_cases a <;> rfl) _ f w

theorem wr_11 (f w : S2000x90.Idx → Elt F .f32) : ((Memref.whole cc0_stg1_1).access rOut : View sig .tc _ _ _).write (Elt F) f w Finset.univ = w :=
  Memref.write_access_unit_zero_univ (Elt F) cc0_stg1_1 (funext fun a => by fin_cases a <;> rfl) _ f w

/-- The same over the pipeline's staging buffers, whichever of its two each window is on. -/
theorem soft_owns (c : Dev nD) (i : grid0.Coords) (s0 s1 : Fin 2)
    (X : S2000x91.Idx → Elt F .f32) (Y : S2000x90.Idx → Elt F .f32) (E : Set ℕ) (Q : PUnit → sProp 𝕄) :
    iprop(owns (c : Thread nD τ) (win0_0.stage s0) fullShare X ∗ owns (c : Thread nD τ) (win0_1.stage s1) fullShare Y
        ∗ (iprop(owns (c : Thread nD τ) (win0_0.stage s0) fullShare X ∗ owns (c : Thread nD τ) (win0_1.stage s1) fullShare (k0_pay1 X)) -∗ Q ⟨⟩))
      ⊢ wp frame (wpE (defs₀ (F := F)) 𝒱₀ c none) E
          (cc0__softmax_mask_kernel i (win0_0.stage s0) (hstage0_0 s0) (win0_1.stage s1) (hstage0_1 s1)) Q := by
  fin_cases s0 <;> fin_cases s1
  · show iprop(owns (c : Thread nD τ) (Memref.whole cc0_stg0_0) fullShare X ∗ owns (c : Thread nD τ) (Memref.whole cc0_stg1_0) fullShare Y
        ∗ (iprop(owns (c : Thread nD τ) (Memref.whole cc0_stg0_0) fullShare X ∗ owns (c : Thread nD τ) (Memref.whole cc0_stg1_0) fullShare (k0_pay1 X)) -∗ Q ⟨⟩)) ⊢ _
    simp only [owns_whole_eq]
    iintro ⟨⟨%f0, %hf0, H0⟩, ⟨%f1, -, H1⟩, Hk⟩
    iapply (soft_run c i (Memref.whole cc0_stg0_0) (Memref.isWhole_whole _) (Memref.whole cc0_stg1_0) (Memref.isWhole_whole _) f0 f1 E Q)
    isplitl [H0]; · iexact H0
    isplitl [H1]; · iexact H1
    iintro ⟨H0, H1⟩
    iapply Hk
    isplitl [H0]
    · iexists f0; isplitr; · ipureintro; exact hf0
      iexact H0
    · iexists _; isplitr; swap; (· iexact H1); ipureintro
      rw [wr_10, rd_00, hf0]
  · show iprop(owns (c : Thread nD τ) (Memref.whole cc0_stg0_0) fullShare X ∗ owns (c : Thread nD τ) (Memref.whole cc0_stg1_1) fullShare Y
        ∗ (iprop(owns (c : Thread nD τ) (Memref.whole cc0_stg0_0) fullShare X ∗ owns (c : Thread nD τ) (Memref.whole cc0_stg1_1) fullShare (k0_pay1 X)) -∗ Q ⟨⟩)) ⊢ _
    simp only [owns_whole_eq]
    iintro ⟨⟨%f0, %hf0, H0⟩, ⟨%f1, -, H1⟩, Hk⟩
    iapply (soft_run c i (Memref.whole cc0_stg0_0) (Memref.isWhole_whole _) (Memref.whole cc0_stg1_1) (Memref.isWhole_whole _) f0 f1 E Q)
    isplitl [H0]; · iexact H0
    isplitl [H1]; · iexact H1
    iintro ⟨H0, H1⟩
    iapply Hk
    isplitl [H0]
    · iexists f0; isplitr; · ipureintro; exact hf0
      iexact H0
    · iexists _; isplitr; swap; (· iexact H1); ipureintro
      rw [wr_11, rd_00, hf0]
  · show iprop(owns (c : Thread nD τ) (Memref.whole cc0_stg0_1) fullShare X ∗ owns (c : Thread nD τ) (Memref.whole cc0_stg1_0) fullShare Y
        ∗ (iprop(owns (c : Thread nD τ) (Memref.whole cc0_stg0_1) fullShare X ∗ owns (c : Thread nD τ) (Memref.whole cc0_stg1_0) fullShare (k0_pay1 X)) -∗ Q ⟨⟩)) ⊢ _
    simp only [owns_whole_eq]
    iintro ⟨⟨%f0, %hf0, H0⟩, ⟨%f1, -, H1⟩, Hk⟩
    iapply (soft_run c i (Memref.whole cc0_stg0_1) (Memref.isWhole_whole _) (Memref.whole cc0_stg1_0) (Memref.isWhole_whole _) f0 f1 E Q)
    isplitl [H0]; · iexact H0
    isplitl [H1]; · iexact H1
    iintro ⟨H0, H1⟩
    iapply Hk
    isplitl [H0]
    · iexists f0; isplitr; · ipureintro; exact hf0
      iexact H0
    · iexists _; isplitr; swap; (· iexact H1); ipureintro
      rw [wr_10, rd_01, hf0]
  · show iprop(owns (c : Thread nD τ) (Memref.whole cc0_stg0_1) fullShare X ∗ owns (c : Thread nD τ) (Memref.whole cc0_stg1_1) fullShare Y
        ∗ (iprop(owns (c : Thread nD τ) (Memref.whole cc0_stg0_1) fullShare X ∗ owns (c : Thread nD τ) (Memref.whole cc0_stg1_1) fullShare (k0_pay1 X)) -∗ Q ⟨⟩)) ⊢ _
    simp only [owns_whole_eq]
    iintro ⟨⟨%f0, %hf0, H0⟩, ⟨%f1, -, H1⟩, Hk⟩
    iapply (soft_run c i (Memref.whole cc0_stg0_1) (Memref.isWhole_whole _) (Memref.whole cc0_stg1_1) (Memref.isWhole_whole _) f0 f1 E Q)
    isplitl [H0]; · iexact H0
    isplitl [H1]; · iexact H1
    iintro ⟨H0, H1⟩
    iapply Hk
    isplitl [H0]
    · iexists f0; isplitr; · ipureintro; exact hf0
      iexact H0
    · iexists _; isplitr; swap; (· iexact H1); ipureintro
      rw [wr_11, rd_01, hf0]

/-! ## The proof data, at an entry valuation -/

variable (V : (c : Dev nD) → (b : Ref sig .tc) → Buf (Elt F) ((c : Thread nD τ).loc b))

/-- The block of logits fetched at a point. -/
abbrev lblk (c : Dev nD) (t : Fin (cfg0 (F := F)).N) : S2000x91.Idx → Elt F .f32 :=
  (((cfg0 (F := F)).win 0).blk t).view.read (Elt F) (V c main_arg0)

/-- What rides along unread: the scoped buffers the pipeline does not stage. -/
abbrev Φ0 (c : Dev nD) : sProp 𝕄 := Pipeline.scopedRest (Ix := Unit) (Name := ℕ) (U := UR sig nD τ) (Lvl := ℕ) (Val := Elt F) spec0 c

/-- The proof data of the first region entered at `V`: the logits' buffer is left as fetched, the scores' at the payload
    of the block. -/
def dat0 (c : Dev nD) : Dat τ (Elt F) Unit ℕ (UR sig nD τ) ℕ (cfg0 (F := F)) c where
  A w := V c (Pipeline.arrRef spec0 w)
  after w t := match w with
    | ⟨0, _⟩ => lblk V c t
    | ⟨1, _⟩ => k0_pay1 (lblk V c t)
  Φ _ := Φ0 c
  q _ := fullShare
  owed _ := 0

theorem before0 (c : Dev nD) (t : Fin (cfg0 (F := F)).N) (d) : (dat0 V c).before 0 t d = lblk V c t := by
  unfold Dat.before; rw [if_pos (fetch0_0 t)]; rfl

/-- The body obligation of the first region. -/
theorem body0 (c : Dev nD) : BodyObligation (dat0 V c) (defs₀ (F := F)) 𝒱₀ () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  iintro ⟨HΦ, Howes, ⟨%d0, H0⟩, ⟨%d1, H1⟩⟩
  rw [before0 V c t d0]
  iapply (soft_owns c (grid0.coords t) ((cfg0 (F := F)).slots t 0) ((cfg0 (F := F)).slots t 1) (lblk V c t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.KI

end
-- ==== Proof.KI.While.lean ====
/-
  The second kernel's chunk loop (label 2 of the body table): its value as a recursion, and the specification its body
  meets. A chunk loads its 128 rows of the column scratch, fills the strip scratch with the overlap payload of them, and
  goes through the strip's rows, each trip the payload `k1_pay59` on the carried keep vector; the loop goes on while the
  counter is below 32 and the carried count below 100.
-/
module

public import proofs.«01_k».proof.Proof.KI.Soft

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column scratch and the strip scratch. -/
abbrev colM : Memref sig .tc .vmem S4096x8 .f32 := Memref.whole cc1_scratch0
abbrev strM : Memref sig .tc .vmem S128x4096 .f32 := Memref.whole cc1_scratch1

/-- One trip through a strip `X`: row `k`'s payload on the carried keep vector. -/
def tripV (X : S128x4096.Idx → Elt F .f32) (lane : IVec S1x4096 32) (j : BitVec 32) (k : Fin k1_t1_loop.trips) (keep : FVec F S1x4096 .f32) :
    FVec F S1x4096 .f32 :=
  k1_pay59 lane j k keep
    ((strM.access (Rect.unit (s := S128x4096) (k1_off6 k) S1x4096.size (k1_off6_inb k)) : View sig .tc _ _ _).read (Elt F) X)

/-- The keep vector before trip `k`. -/
def tripsV (X : S128x4096.Idx → Elt F .f32) (lane : IVec S1x4096 32) (j : BitVec 32) (keep : FVec F S1x4096 .f32) : ℕ → FVec F S1x4096 .f32
  | 0 => keep
  | k + 1 => if h : k < k1_t1_loop.trips then tripV X lane j ⟨k, h⟩ (tripsV X lane j keep k) else tripsV X lane j keep k

/-- Five columns of the column scratch at chunk `j`'s rows, and the strip they give. -/
def stripV (C : S4096x8.Idx → Elt F .f32) (x1 y1 x2 y2 ar : FVec F S1x4096 .f32) (j : BitVec 32) (hj : k1_chk1 j) : S128x4096.Idx → Elt F .f32 :=
  k1_pay58 x1 y1 x2 y2 ar
    ((colM.access (Rect.unit (s := S4096x8) (k1_off1 j) S128x1.size (k1_off1_inb j hj)) : View sig .tc _ _ _).read (Elt F) C)
    ((colM.access (Rect.unit (s := S4096x8) (k1_off2 j) S128x1.size (k1_off2_inb j hj)) : View sig .tc _ _ _).read (Elt F) C)
    ((colM.access (Rect.unit (s := S4096x8) (k1_off3 j) S128x1.size (k1_off3_inb j hj)) : View sig .tc _ _ _).read (Elt F) C)
    ((colM.access (Rect.unit (s := S4096x8) (k1_off4 j) S128x1.size (k1_off4_inb j hj)) : View sig .tc _ _ _).read (Elt F) C)
    ((colM.access (Rect.unit (s := S4096x8) (k1_off5 j) S128x1.size (k1_off5_inb j hj)) : View sig .tc _ _ _).read (Elt F) C)

/-- The test of the chunk loop at counter `j` and count `n`. -/
def testV (j : BitVec 32) (n : F .f32) : BitVec 1 :=
  Scalar.andi (Scalar.cmpi .slt j 32#32) (Scalar.cmpf .olt n (Scalar.ofBits .f32 0x42C80000#32))

/-- The count after chunk `j`: the entries of the keep vector below the chunk's end, summed. -/
def countV (lane : IVec S1x4096 32) (j : BitVec 32) (keep : FVec F S1x4096 .f32) : F .f32 :=
  k1_pay3 lane (Scalar.muli j 128#32) keep 128#32

theorem chk_ofNat (j : ℕ) (h : j < 32) : k1_chk1 (BitVec.ofNat 32 j) := by
  have : ∀ j : Fin 32, k1_chk1 (BitVec.ofNat 32 j.val) := by decide +kernel
  exact this ⟨j, h⟩

/-- The chunk loop's returned counter, keep vector and count with at most `k` chunks to run from chunk `j`, chunk `j`'s
    strip being `strip j`. -/
def loopV (strip : ℕ → S128x4096.Idx → Elt F .f32) (lane : IVec S1x4096 32) :
    ℕ → ℕ → FVec F S1x4096 .f32 → F .f32 → BitVec 32 × FVec F S1x4096 .f32 × F .f32
  | 0, j, keep, n => (BitVec.ofNat 32 j, keep, n)
  | k + 1, j, keep, n =>
    if testV (BitVec.ofNat 32 j) n = 1#1 then
      loopV strip lane k (j + 1) (tripsV (strip j) lane (BitVec.ofNat 32 j) keep k1_t1_loop.trips)
        (countV lane (BitVec.ofNat 32 j) (tripsV (strip j) lane (BitVec.ofNat 32 j) keep k1_t1_loop.trips))
    else (BitVec.ofNat 32 j, keep, n)

/-- At the last counter the test fails, whatever the count. -/
theorem test_end (n : F .f32) : ¬testV (BitVec.ofNat 32 32) n = 1#1 := by
  unfold testV
  rw [show Scalar.cmpi .slt (BitVec.ofNat 32 32) 32#32 = 0#1 from by decide]
  generalize Scalar.cmpf .olt n (Scalar.ofBits .f32 0x42C80000#32) = b
  revert b; decide

section Label

variable (c : Dev nD) (C : S4096x8.Idx → Elt F .f32) (x1 y1 x2 y2 ar : FVec F S1x4096 .f32) (lane : IVec S1x4096 32)
  (strip : ℕ → S128x4096.Idx → Elt F .f32)

/-- The two scratch buffers held: the columns at their contents, the strip at anything. -/
def heldS : sProp 𝕄 :=
  iprop((((c : Thread nD τ).loc cc1_scratch0) ↦{fullShare} (C : Buf (Elt F) ((c : Thread nD τ).loc cc1_scratch0)))
    ∗ ∃ g : Buf (Elt F) ((c : Thread nD τ).loc cc1_scratch1), ((c : Thread nD τ).loc cc1_scratch1) ↦{fullShare} g)

/-- The label's specification from chunk `j` with `k` to run: it returns the recursion's value, the columns as they were. -/
def spec (k j : ℕ) (keep : FVec F S1x4096 .f32) (n : F .f32) : sWPT 𝕄 (BitVec 32 × FVec F S1x4096 .f32 × F .f32) := do
  sWPT.consume (heldS c C)
  sWPT.produce (heldS c C)
  pure (loopV strip lane k j keep n)

theorem spec_apply (k j : ℕ) (keep : FVec F S1x4096 .f32) (n : F .f32) (K : BitVec 32 × FVec F S1x4096 .f32 × F .f32 → sProp 𝕄) :
    spec c C lane strip k j keep n K
      = iprop(heldS c C ∗ (heldS c C -∗ K (loopV strip lane k j keep n))) := rfl

/-- The inner loop's invariant: the strip held at `X`, the carried vector the recursion's. -/
def invT (X : S128x4096.Idx → Elt F .f32) (j : BitVec 32) (keep : FVec F S1x4096 .f32) (k : ℕ) (acc : FVec F S1x4096 .f32) : sProp 𝕄 :=
  iprop((((c : Thread nD τ).loc cc1_scratch1) ↦{fullShare} (X : Buf (Elt F) ((c : Thread nD τ).loc cc1_scratch1)))
    ∗ ⌜acc = tripsV X lane j keep k⌝)

/-- One trip takes the invariant on. -/
theorem inv_step (bd : Option ℕ) (E : Set ℕ) (X : S128x4096.Idx → Elt F .f32) (j : BitVec 32) (keep : FVec F S1x4096 .f32) (n : F .f32)
    (k : Fin k1_t1_loop.trips) (acc : FVec F S1x4096 .f32) :
    invT c lane X j keep k.val acc
      ⊢ wp frame (wpE (defs₀ (F := F)) 𝒱₀ (c : Thread nD τ) bd) E
          (k1_t1_body colM (Memref.isWhole_whole _) x1 y1 x2 y2 ar strM (Memref.isWhole_whole _) lane j keep n k acc)
          (invT c lane X j keep (k.val + 1)) := by
  unfold invT k1_t1_body
  simp only [Prog.lift, Prog.bind_op, Prog.bind_ret, Prog.pure_eq_ret]
  iintro ⟨HX, %hacc⟩
  iapply (wp_load 𝒱₀ (c : Thread nD τ) bd E (m := strM) (Finset.subset_univ _)) $$ HX; iintro HX
  rw [wp_ret]; imodintro
  isplitl [HX]; · iexact HX
  ipureintro
  rw [tripsV, dif_pos k.isLt, ← hacc]
  rfl

theorem addi_ofNat (j : ℕ) : Scalar.addi (BitVec.ofNat 32 j) 1#32 = BitVec.ofNat 32 (j + 1) := by
  show BitVec.ofNat 32 j + 1#32 = _
  rw [BitVec.ofNat_add]

theorem wr_str (f w : S128x4096.Idx → Elt F .f32) :
    (strM.access (Rect.unit (s := S128x4096) ![0, 0] S128x4096.size inb_S128x4096_S128x4096_0_0) : View sig .tc _ _ _).write (Elt F) f w Finset.univ = w :=
  Memref.write_access_unit_zero_univ (Elt F) cc1_scratch1 (funext fun a => by fin_cases a <;> rfl) _ f w

/-- The specification is met by the label's body, by induction on the chunks left. -/
theorem spec_le (E : Set ℕ) (hC : ∀ j (hj : j < 32), stripV C x1 y1 x2 y2 ar (BitVec.ofNat 32 j) (chk_ofNat j hj) = strip j) :
    ∀ k j, j + k = 32 → ∀ keep n K, spec c C lane strip k j keep n K
      ⊢ wp frame (wpE (defs₀ (F := F)) 𝒱₀ (c : Thread nD τ) (some k)) E
          (defs₀ (F := F) .tc 2 ⟨colM, Memref.isWhole_whole _, x1, y1, x2, y2, ar, strM, Memref.isWhole_whole _, lane,
            BitVec.ofNat 32 j, keep, n⟩) K := by
  intro k
  induction k with
  | zero =>
    intro j hj keep n K
    rw [spec_apply]
    show _ ⊢ wp frame (wpE (defs₀ (F := F)) 𝒱₀ (c : Thread nD τ) (some 0)) E
      (cc1_while1 colM (Memref.isWhole_whole _) x1 y1 x2 y2 ar strM (Memref.isWhole_whole _) lane (BitVec.ofNat 32 j) keep n) K
    simp only [cc1_while1_eq_skeleton]; unfold cc1_while1_skel
    have hj32 : j = 32 := by omega
    subst hj32
    have ht := test_end n
    unfold testV at ht
    simp only [ht, ↓reduceIte, Prog.pure_eq_ret]
    rw [loopV]
    iintro ⟨H, Hk⟩
    rw [wp_ret]; imodintro
    iapply Hk
    iexact H
  | succ k ih =>
    intro j hj keep n K
    have hj32 : j < 32 := by omega
    rw [spec_apply]
    show _ ⊢ wp frame (wpE (defs₀ (F := F)) 𝒱₀ (c : Thread nD τ) (some (k + 1))) E
      (cc1_while1 colM (Memref.isWhole_whole _) x1 y1 x2 y2 ar strM (Memref.isWhole_whole _) lane (BitVec.ofNat 32 j) keep n) K
    simp only [cc1_while1_eq_skeleton]; unfold cc1_while1_skel
    by_cases ht : testV (BitVec.ofNat 32 j) n = 1#1
    · rw [loopV, if_pos ht]
      unfold testV at ht
      simp only [ht, ↓reduceIte]
      simp only [k1_part6_eq_skeleton]; unfold k1_part6_skel
      simp only [Prog.lift, Prog.bind_op, Prog.bind_ret, Prog.pure_eq_ret, Prog.bind_assoc]
      unfold heldS
      iintro ⟨⟨HC, %g, Hg⟩, Hk⟩
      iapply (wp_assume 𝒱₀ (c : Thread nD τ) (some (k + 1)) E (chk_ofNat j hj32))
      iapply (wp_load 𝒱₀ (c : Thread nD τ) (some (k + 1)) E (m := colM) (Finset.subset_univ _)) $$ HC; iintro HC
      iapply (wp_load 𝒱₀ (c : Thread nD τ) (some (k + 1)) E (m := colM) (Finset.subset_univ _)) $$ HC; iintro HC
      iapply (wp_load 𝒱₀ (c : Thread nD τ) (some (k + 1)) E (m := colM) (Finset.subset_univ _)) $$ HC; iintro HC
      iapply (wp_load 𝒱₀ (c : Thread nD τ) (some (k + 1)) E (m := colM) (Finset.subset_univ _)) $$ HC; iintro HC
      iapply (wp_load 𝒱₀ (c : Thread nD τ) (some (k + 1)) E (m := colM) (Finset.subset_univ _)) $$ HC; iintro HC
      iapply (wp_load 𝒱₀ (c : Thread nD τ) (some (k + 1)) E (m := strM) (Finset.subset_univ _)) $$ Hg; iintro Hg
      iapply (wp_store 𝒱₀ (c : Thread nD τ) (some (k + 1)) E (m := strM)
        (r := Rect.unit (s := S128x4096) ![0, 0] S128x4096.size inb_S128x4096_S128x4096_0_0) (Mk := Finset.univ) (Finset.subset_univ _)) $$ Hg; iintro Hg
      rw [wr_str]
      iapply (Scf.wp_for_bind Idealize.ShloMosaic.frame (wpE (defs₀ (F := F)) 𝒱₀ (c : Thread nD τ) (some (k + 1))) E _ _ _ k1_t1_ok keep _
        (invT c lane (strip j) (BitVec.ofNat 32 j) keep) (inv_step c x1 y1 x2 y2 ar lane (some (k + 1)) E (strip j) (BitVec.ofNat 32 j) keep n)) $$ [Hg]
      · unfold invT
        isplitl [Hg]
        · rw [← hC j hj32]; iexact Hg
        ipureintro; rfl
      iintro %acc Hinv
      unfold invT
      icases Hinv with ⟨Hg, %hacc⟩
      rw [hacc, addi_ofNat]
      iapply (wp_call_spec 𝒱₀ (c : Thread nD τ) (some (k + 1)) E (spec c C lane strip k (j + 1)
          (tripsV (strip j) lane (BitVec.ofNat 32 j) keep k1_t1_loop.trips)
          (countV lane (BitVec.ofNat 32 j) (tripsV (strip j) lane (BitVec.ofNat 32 j) keep k1_t1_loop.trips))) k
        (fun u hu => by cases hu; exact Nat.lt_succ_self k)
        (ih (j + 1) (by omega) _ _))
      rw [spec_apply]; unfold heldS
      isplitl [HC Hg]
      · isplitl [HC]; · iexact HC
        iexists _; iexact Hg
      iintro H
      rw [wp_ret]; imodintro
      iapply Hk
      iexact H
    · rw [loopV, if_neg ht]
      unfold testV at ht
      simp only [ht, ↓reduceIte, Prog.pure_eq_ret]
      iintro ⟨H, Hk⟩
      rw [wp_ret]; imodintro
      iapply Hk
      iexact H

end Label

end Cert.Proof.KI

end
-- ==== Proof.KI.Nms.lean ====
/-
  The second kernel's body at its one point: the values it stores as functions of the seven operands' blocks, and its run.
-/
module

public import proofs.«01_k».proof.Proof.KI.While

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The seven operands' blocks. -/
structure Ins (F : FTy → Type) where
  a0 : S4x4096.Idx → Elt F .f32
  a1 : S4x4096.Idx → Elt F .f32
  a2 : S2x4096.Idx → Elt F .f32
  a3 : S4096x4.Idx → Elt F .f32
  a4 : S4096x4.Idx → Elt F .f32
  a5 : S4096x1.Idx → Elt F .f32
  a6 : S1x2.Idx → Elt F .f32

namespace Ins

variable (I : Ins F)

/-- Row `k` of a four-row block, and of a two-row one; column `k` of a four-column block. -/
def row4 (A : S4x4096.Idx → Elt F .f32) (k : Fin 4) : FVec F S1x4096 .f32 :=
  fun i => A (Fin.cases k (fun a => Fin.cases (i 1) (fun b => b.elim0) a) : (a : Fin 2) → Fin (S4x4096.size a))
def row2 (A : S2x4096.Idx → Elt F .f32) (k : Fin 2) : FVec F S1x4096 .f32 :=
  fun i => A (Fin.cases k (fun a => Fin.cases (i 1) (fun b => b.elim0) a) : (a : Fin 2) → Fin (S2x4096.size a))
def col4 (A : S4096x4.Idx → Elt F .f32) (k : Fin 4) : FVec F S4096x1 .f32 :=
  fun i => A (Fin.cases (i 0) (fun a => Fin.cases k (fun b => b.elim0) a) : (a : Fin 2) → Fin (S4096x4.size a))
def pt2 (A : S1x2.Idx → Elt F .f32) (k : Fin 2) : FVec F S1x1 .f32 :=
  fun _ => A (Fin.cases (0 : Fin 1) (fun a => Fin.cases k (fun b => b.elim0) a) : (a : Fin 2) → Fin (S1x2.size a))

/-- Width and height of the image. -/
def w : F .f32 := k1_pay4 (pt2 I.a6 1)
def h : F .f32 := k1_pay5 (pt2 I.a6 0)
/-- The decoded, clipped corners, one row each. -/
def b0 : FVec F S1x4096 .f32 := k1_pay20 I.w (k1_pay9 (row4 I.a0 0) (row4 I.a0 2)) (k1_pay11 (row4 I.a0 0) (row4 I.a0 2)) (k1_pay13 (row4 I.a1 0)) (k1_pay15 (row4 I.a1 2)) (Scalar.ofBits .f32 0x40845349#32)
def b1 : FVec F S1x4096 .f32 := k1_pay21 I.h (k1_pay8 (row4 I.a1 3)) (k1_pay10 (row4 I.a0 1) (row4 I.a0 3)) (k1_pay12 (row4 I.a0 1) (row4 I.a0 3)) (k1_pay14 (row4 I.a1 1))
def b2 : FVec F S1x4096 .f32 := k1_pay22 I.w (k1_pay9 (row4 I.a0 0) (row4 I.a0 2)) (k1_pay11 (row4 I.a0 0) (row4 I.a0 2)) (k1_pay13 (row4 I.a1 0)) (k1_pay15 (row4 I.a1 2)) (Scalar.ofBits .f32 0x40845349#32)
def b3 : FVec F S1x4096 .f32 := k1_pay23 I.h (k1_pay8 (row4 I.a1 3)) (k1_pay10 (row4 I.a0 1) (row4 I.a0 3)) (k1_pay12 (row4 I.a0 1) (row4 I.a0 3)) (k1_pay14 (row4 I.a1 1))
/-- The scores' row. -/
def sc : FVec F S1x4096 .f32 := k1_pay24 (row2 I.a2 0)
/-- The corners moved by class, and the areas, one row each. -/
def x1 : FVec F S1x4096 .f32 := k1_pay26 I.b0 (row2 I.a2 1)
def y1 : FVec F S1x4096 .f32 := k1_pay27 I.b1 (row2 I.a2 1)
def x2 : FVec F S1x4096 .f32 := k1_pay28 I.b2 (row2 I.a2 1)
def y2 : FVec F S1x4096 .f32 := k1_pay29 I.b3 (row2 I.a2 1)
def ar : FVec F S1x4096 .f32 := k1_pay30 I.b0 I.b1 I.b2 I.b3 (row2 I.a2 1)
/-- The columns the second decoding goes through. -/
def v94 : FVec F S4096x1 .f32 := k1_pay31 (col4 I.a3 0)
def v96 : FVec F S4096x1 .f32 := k1_pay32 (col4 I.a3 1)
def v102 : FVec F S4096x1 .f32 := k1_pay33 (col4 I.a4 0)
def v104 : FVec F S4096x1 .f32 := k1_pay34 (col4 I.a4 1)
def v106 : FVec F S4096x1 .f32 := k1_pay35 (col4 I.a4 2)
def v108 : FVec F S4096x1 .f32 := k1_pay36 (col4 I.a4 3)
def v109 : FVec F S4096x1 .f32 := k1_pay37 (col4 I.a3 0) (col4 I.a3 2)
def v110 : FVec F S4096x1 .f32 := k1_pay38 (col4 I.a3 1) (col4 I.a3 3)
def v132 : FVec F S4096x1 .f32 := k1_pay40 I.v96 I.v104 I.v110
def v136 : FVec F S4096x1 .f32 := k1_pay42 I.v108 I.v110
def v143 : FVec F S4096x1 .f32 := k1_pay43 I.w I.v94 I.v102 I.v106 I.v109
def v150 : FVec F S4096x1 .f32 := k1_pay44 I.h I.v96 I.v104 I.v108 I.v110
def v155 : FVec F S4096x1 .f32 := k1_pay45 I.v94 I.v102 I.v106 I.v109
def v156 : FVec F S4096x1 .f32 := k1_pay46 I.w
/-- The five columns stored: the moved corners and the areas again, one column each. -/
def c0 : FVec F S4096x1 .f32 := k1_pay52 I.v143 I.a5
def c1 : FVec F S4096x1 .f32 := k1_pay53 I.v150 I.a5
def c2 : FVec F S4096x1 .f32 := k1_pay54 I.v155 I.v156 I.a5
def c3 : FVec F S4096x1 .f32 := k1_pay55 I.h I.v132 I.v136 I.a5
def c4 : FVec F S4096x1 .f32 := k1_pay56 I.h I.v132 I.v136 I.v143 I.v150 I.v155 I.v156 I.a5

/-- Rows `128 j .. 128 j + 127` of a column. -/
def seg (v : FVec F S4096x1 .f32) (j : ℕ) : S128x1.Idx → Elt F .f32 :=
  fun i => v (Fin.cases (⟨(128 * j + (i 0).val) % 4096, Nat.mod_lt _ (by decide)⟩ : Fin 4096) (fun a => Fin.cases (0 : Fin 1) (fun b => b.elim0) a) : (a : Fin 2) → Fin (S4096x1.size a))

/-- Chunk `j`'s strip: the overlaps of its 128 boxes with all. -/
def strip (j : ℕ) : S128x4096.Idx → Elt F .f32 :=
  k1_pay58 I.x1 I.y1 I.x2 I.y2 I.ar (seg I.c0 j) (seg I.c1 j) (seg I.c2 j) (seg I.c3 j) (seg I.c4 j)

/-- The lane numbers. -/
def lane : IVec S1x4096 32 := iota .tc S1x4096 32 [1] iota_S1x4096_d1_w32

/-- The keep vector the loop starts at and the one it ends at. -/
def keep0 : FVec F S1x4096 .f32 := k1_pay1 (k1_pay57 I.sc) (Scalar.ofBits .f32 0x3F800000#32) (Scalar.ofBits .f32 0x00000000#32)
def keepN : FVec F S1x4096 .f32 := (loopV I.strip lane 32 0 I.keep0 (Scalar.ofBits .f32 0x00000000#32)).2.1

/-- The boxes stored, and the kept scores stored. -/
def boxes : S4x4096.Idx → Elt F .f32 := fun i =>
  match (i 0).val with
  | 0 => I.b0 (Fin.cases (0 : Fin 1) (fun a => Fin.cases (i 1) (fun b => b.elim0) a) : (a : Fin 2) → Fin (S1x4096.size a))
  | 1 => I.b1 (Fin.cases (0 : Fin 1) (fun a => Fin.cases (i 1) (fun b => b.elim0) a) : (a : Fin 2) → Fin (S1x4096.size a))
  | 2 => I.b2 (Fin.cases (0 : Fin 1) (fun a => Fin.cases (i 1) (fun b => b.elim0) a) : (a : Fin 2) → Fin (S1x4096.size a))
  | _ => I.b3 (Fin.cases (0 : Fin 1) (fun a => Fin.cases (i 1) (fun b => b.elim0) a) : (a : Fin 2) → Fin (S1x4096.size a))
def kept : S1x4096.Idx → Elt F .f32 := k1_pay2 I.sc I.keepN

end Ins

/-! ## Stores through a rectangle of a whole buffer -/

theorem wr_hit (b : Ref sig .tc) {off size : Fin b.ty.shape.rank → ℕ} (inb : ∀ a, off a + size a ≤ b.ty.shape.size a) (f : b.ty.Contents (Elt F))
    (v : (Rect.unit (s := b.ty.shape) off size inb).shape.Idx → Elt F b.ty.elt) (y : b.ty.shape.Idx) (x : (Rect.unit (s := b.ty.shape) off size inb).shape.Idx)
    (h : ∀ a, (y a).val = off a + (x a).val) :
    ((Memref.whole b).access (Rect.unit (s := b.ty.shape) off size inb) : View sig .tc _ _ _).write (Elt F) f v Finset.univ y = v x := by
  obtain rfl : y = (Rect.unit (s := b.ty.shape) off size inb).emb x := by
    funext a
    refine Fin.ext ((h a).trans ?_)
    show _ = off a + _
    simp
  exact View.read_slice_write_emb (v := (Memref.whole b).view) (Rect.unit (s := b.ty.shape) off size inb) f v (Finset.mem_univ x)

theorem wr_miss (b : Ref sig .tc) {off size : Fin b.ty.shape.rank → ℕ} (inb : ∀ a, off a + size a ≤ b.ty.shape.size a) (f : b.ty.Contents (Elt F))
    (v : (Rect.unit (s := b.ty.shape) off size inb).shape.Idx → Elt F b.ty.elt) (y : b.ty.shape.Idx) (a : Fin b.ty.shape.rank)
    (h : (y a).val < off a ∨ off a + size a ≤ (y a).val) :
    ((Memref.whole b).access (Rect.unit (s := b.ty.shape) off size inb) : View sig .tc _ _ _).write (Elt F) f v Finset.univ y = f y := by
  refine View.read_slice_write_of_not_mem (v := (Memref.whole b).view) (Rect.unit (s := b.ty.shape) off size inb) f v Finset.univ ?_
  intro hm
  have hm' : y ∈ (Rect.unit (s := b.ty.shape) off size inb).set := by rw [← Rect.map_emb_univ]; exact hm
  rw [Rect.mem_set_unit] at hm'
  have := hm' a
  omega

/-- What four row stores leave, whatever was there. -/
theorem wr_rows (f : S4x4096.Idx → Elt F .f32) (u0 u1 u2 u3 : FVec F S1x4096 .f32) (y : S4x4096.Idx) (x : S1x4096.Idx) (hx : (x 1).val = (y 1).val) :
    ((Memref.whole cc1_stg7_0).access (Rect.unit (s := S4x4096) ![3, 0] S1x4096.size inb_S4x4096_S1x4096_3_0) : View sig .tc _ _ _).write (Elt F)
      (((Memref.whole cc1_stg7_0).access (Rect.unit (s := S4x4096) ![2, 0] S1x4096.size inb_S4x4096_S1x4096_2_0) : View sig .tc _ _ _).write (Elt F)
        (((Memref.whole cc1_stg7_0).access (Rect.unit (s := S4x4096) ![1, 0] S1x4096.size inb_S4x4096_S1x4096_1_0) : View sig .tc _ _ _).write (Elt F)
          (((Memref.whole cc1_stg7_0).access (Rect.unit (s := S4x4096) ![0, 0] S1x4096.size inb_S4x4096_S1x4096_0_0) : View sig .tc _ _ _).write (Elt F)
            f u0 Finset.univ) u1 Finset.univ) u2 Finset.univ) u3 Finset.univ y
      = (match (y 0).val with | 0 => u0 x | 1 => u1 x | 2 => u2 x | _ => u3 x) := by
  have hx0 : (x 0).val = 0 := Nat.lt_one_iff.mp (x 0).isLt
  have hy : ∀ k : ℕ, (y 0).val = k → ∀ a : Fin 2, (y a).val = (![k, 0] : Fin 2 → ℕ) a + (x a).val := by
    intro k hk a
    fin_cases a
    · show (y 0).val = k + (x 0).val; omega
    · show (y 1).val = 0 + (x 1).val; omega
  obtain ⟨k, hk0⟩ : ∃ k, (y 0).val = k := ⟨_, rfl⟩
  have hk : k < 4 := hk0 ▸ (y 0).isLt
  rw [hk0]
  have hms : ∀ j : ℕ, k ≠ j → (y 0).val < (![j, 0] : Fin 2 → ℕ) 0 ∨ (![j, 0] : Fin 2 → ℕ) 0 + S1x4096.size 0 ≤ (y 0).val := by
    intro j hj
    show (y 0).val < j ∨ j + 1 ≤ (y 0).val
    omega
  match k, hk with
  | 0, _ =>
    refine (wr_miss cc1_stg7_0 inb_S4x4096_S1x4096_3_0 _ u3 y 0 (hms 3 (by decide))).trans ?_
    refine (wr_miss cc1_stg7_0 inb_S4x4096_S1x4096_2_0 _ u2 y 0 (hms 2 (by decide))).trans ?_
    refine (wr_miss cc1_stg7_0 inb_S4x4096_S1x4096_1_0 _ u1 y 0 (hms 1 (by decide))).trans ?_
    exact wr_hit cc1_stg7_0 inb_S4x4096_S1x4096_0_0 _ u0 y x (hy 0 hk0)
  | 1, _ =>
    refine (wr_miss cc1_stg7_0 inb_S4x4096_S1x4096_3_0 _ u3 y 0 (hms 3 (by decide))).trans ?_
    refine (wr_miss cc1_stg7_0 inb_S4x4096_S1x4096_2_0 _ u2 y 0 (hms 2 (by decide))).trans ?_
    exact wr_hit cc1_stg7_0 inb_S4x4096_S1x4096_1_0 _ u1 y x (hy 1 hk0)
  | 2, _ =>
    refine (wr_miss cc1_stg7_0 inb_S4x4096_S1x4096_3_0 _ u3 y 0 (hms 3 (by decide))).trans ?_
    exact wr_hit cc1_stg7_0 inb_S4x4096_S1x4096_2_0 _ u2 y x (hy 2 hk0)
  | 3, _ => exact wr_hit cc1_stg7_0 inb_S4x4096_S1x4096_3_0 _ u3 y x (hy 3 hk0)

/-- The column scratch after five column stores over `g`. -/
def cols (g : S4096x8.Idx → Elt F .f32) (u0 u1 u2 u3 u4 : FVec F S4096x1 .f32) : S4096x8.Idx → Elt F .f32 :=
  (colM.access (Rect.unit (s := S4096x8) ![0, 4] S4096x1.size inb_S4096x8_S4096x1_0_4) : View sig .tc _ _ _).write (Elt F)
    ((colM.access (Rect.unit (s := S4096x8) ![0, 3] S4096x1.size inb_S4096x8_S4096x1_0_3) : View sig .tc _ _ _).write (Elt F)
      ((colM.access (Rect.unit (s := S4096x8) ![0, 2] S4096x1.size inb_S4096x8_S4096x1_0_2) : View sig .tc _ _ _).write (Elt F)
        ((colM.access (Rect.unit (s := S4096x8) ![0, 1] S4096x1.size inb_S4096x8_S4096x1_0_1) : View sig .tc _ _ _).write (Elt F)
          ((colM.access (Rect.unit (s := S4096x8) ![0, 0] S4096x1.size inb_S4096x8_S4096x1_0_0) : View sig .tc _ _ _).write (Elt F)
            g u0 Finset.univ) u1 Finset.univ) u2 Finset.univ) u3 Finset.univ) u4 Finset.univ

/-- An element of the five columns, whatever was there. -/
theorem cols_at (g : S4096x8.Idx → Elt F .f32) (u0 u1 u2 u3 u4 : FVec F S4096x1 .f32) (y : S4096x8.Idx) (x : S4096x1.Idx) (hx : (x 0).val = (y 0).val)
    (k : ℕ) (hk : (y 1).val = k) :
    (k = 0 → cols g u0 u1 u2 u3 u4 y = u0 x) ∧ (k = 1 → cols g u0 u1 u2 u3 u4 y = u1 x) ∧ (k = 2 → cols g u0 u1 u2 u3 u4 y = u2 x)
      ∧ (k = 3 → cols g u0 u1 u2 u3 u4 y = u3 x) ∧ (k = 4 → cols g u0 u1 u2 u3 u4 y = u4 x) := by
  have hx1 : (x 1).val = 0 := Nat.lt_one_iff.mp (x 1).isLt
  have hy : ∀ a : Fin 2, (y a).val = (![0, k] : Fin 2 → ℕ) a + (x a).val := by
    intro a
    fin_cases a
    · show (y 0).val = 0 + (x 0).val; omega
    · show (y 1).val = k + (x 1).val; omega
  have hms : ∀ j : ℕ, k ≠ j → (y 1).val < (![0, j] : Fin 2 → ℕ) 1 ∨ (![0, j] : Fin 2 → ℕ) 1 + S4096x1.size 1 ≤ (y 1).val := by
    intro j hj
    show (y 1).val < j ∨ j + 1 ≤ (y 1).val
    omega
  unfold cols
  refine ⟨?_, ?_, ?_, ?_, ?_⟩ <;> rintro rfl
  · refine (wr_miss cc1_scratch0 inb_S4096x8_S4096x1_0_4 _ u4 y 1 (hms 4 (by decide))).trans ?_
    refine (wr_miss cc1_scratch0 inb_S4096x8_S4096x1_0_3 _ u3 y 1 (hms 3 (by decide))).trans ?_
    refine (wr_miss cc1_scratch0 inb_S4096x8_S4096x1_0_2 _ u2 y 1 (hms 2 (by decide))).trans ?_
    refine (wr_miss cc1_scratch0 inb_S4096x8_S4096x1_0_1 _ u1 y 1 (hms 1 (by decide))).trans ?_
    exact wr_hit cc1_scratch0 inb_S4096x8_S4096x1_0_0 _ u0 y x hy
  · refine (wr_miss cc1_scratch0 inb_S4096x8_S4096x1_0_4 _ u4 y 1 (hms 4 (by decide))).trans ?_
    refine (wr_miss cc1_scratch0 inb_S4096x8_S4096x1_0_3 _ u3 y 1 (hms 3 (by decide))).trans ?_
    refine (wr_miss cc1_scratch0 inb_S4096x8_S4096x1_0_2 _ u2 y 1 (hms 2 (by decide))).trans ?_
    exact wr_hit cc1_scratch0 inb_S4096x8_S4096x1_0_1 _ u1 y x hy
  · refine (wr_miss cc1_scratch0 inb_S4096x8_S4096x1_0_4 _ u4 y 1 (hms 4 (by decide))).trans ?_
    refine (wr_miss cc1_scratch0 inb_S4096x8_S4096x1_0_3 _ u3 y 1 (hms 3 (by decide))).trans ?_
    exact wr_hit cc1_scratch0 inb_S4096x8_S4096x1_0_2 _ u2 y x hy
  · refine (wr_miss cc1_scratch0 inb_S4096x8_S4096x1_0_4 _ u4 y 1 (hms 4 (by decide))).trans ?_
    exact wr_hit cc1_scratch0 inb_S4096x8_S4096x1_0_3 _ u3 y x hy
  · exact wr_hit cc1_scratch0 inb_S4096x8_S4096x1_0_4 _ u4 y x hy

/-- The chunk's row offset as the kernel computes it. -/
theorem offs (j : ℕ) (hj : j < 32) :
    k1_off1 (BitVec.ofNat 32 j) = ![128 * j, 0] ∧ k1_off2 (BitVec.ofNat 32 j) = ![128 * j, 1] ∧ k1_off3 (BitVec.ofNat 32 j) = ![128 * j, 2]
      ∧ k1_off4 (BitVec.ofNat 32 j) = ![128 * j, 3] ∧ k1_off5 (BitVec.ofNat 32 j) = ![128 * j, 4] := by
  have : ∀ j : Fin 32, k1_off1 (BitVec.ofNat 32 j.val) = ![128 * j.val, 0] ∧ k1_off2 (BitVec.ofNat 32 j.val) = ![128 * j.val, 1]
      ∧ k1_off3 (BitVec.ofNat 32 j.val) = ![128 * j.val, 2]
      ∧ k1_off4 (BitVec.ofNat 32 j.val) = ![128 * j.val, 3] ∧ k1_off5 (BitVec.ofNat 32 j.val) = ![128 * j.val, 4] := by decide +kernel
  exact this ⟨j, hj⟩

/-- The strip the loop computes off the stored columns is the chunk's strip, whatever the scratch held before. -/
theorem strip_cols (I : Ins F) (g : S4096x8.Idx → Elt F .f32) (j : ℕ) (hj : j < 32) :
    stripV (cols g I.c0 I.c1 I.c2 I.c3 I.c4) I.x1 I.y1 I.x2 I.y2 I.ar (BitVec.ofNat 32 j) (chk_ofNat j hj) = I.strip j := by
  obtain ⟨o1, o2, o3, o4, o5⟩ := offs j hj
  have key : ∀ (off : Fin 2 → ℕ) (inb : ∀ a, off a + S128x1.size a ≤ S4096x8.size a) (k : ℕ), off = ![128 * j, k] → ∀ i : S128x1.Idx,
      ∃ y : S4096x8.Idx, (y 1).val = k ∧ (y 0).val = (128 * j + (i 0).val) % 4096
        ∧ (colM.access (Rect.unit (s := S4096x8) off S128x1.size inb) : View sig .tc _ _ _).read (Elt F) (cols g I.c0 I.c1 I.c2 I.c3 I.c4) i
          = cols g I.c0 I.c1 I.c2 I.c3 I.c4 y := by
    intro off inb k ho i
    subst ho
    have h1 : (i 1).val = 0 := Nat.lt_one_iff.mp (i 1).isLt
    have h0 : (i 0).val < 128 := (i 0).isLt
    refine ⟨(Rect.unit (s := S4096x8) ![128 * j, k] S128x1.size inb).emb i, ?_, ?_, rfl⟩
    · show k + 1 * (i 1).val = k; omega
    · show 128 * j + 1 * (i 0).val = _; omega
  unfold stripV Ins.strip
  have e1 : ∀ i, _ = Ins.seg I.c0 j i := fun i => by
    obtain ⟨y, h1, h0, e⟩ := key _ (k1_off1_inb _ (chk_ofNat j hj)) 0 o1 i
    exact e.trans ((cols_at g I.c0 I.c1 I.c2 I.c3 I.c4 y _ h0.symm 0 h1).1 rfl)
  have e2 : ∀ i, _ = Ins.seg I.c1 j i := fun i => by
    obtain ⟨y, h1, h0, e⟩ := key _ (k1_off2_inb _ (chk_ofNat j hj)) 1 o2 i
    exact e.trans ((cols_at g I.c0 I.c1 I.c2 I.c3 I.c4 y _ h0.symm 1 h1).2.1 rfl)
  have e3 : ∀ i, _ = Ins.seg I.c2 j i := fun i => by
    obtain ⟨y, h1, h0, e⟩ := key _ (k1_off3_inb _ (chk_ofNat j hj)) 2 o3 i
    exact e.trans ((cols_at g I.c0 I.c1 I.c2 I.c3 I.c4 y _ h0.symm 2 h1).2.2.1 rfl)
  have e4 : ∀ i, _ = Ins.seg I.c3 j i := fun i => by
    obtain ⟨y, h1, h0, e⟩ := key _ (k1_off4_inb _ (chk_ofNat j hj)) 3 o4 i
    exact e.trans ((cols_at g I.c0 I.c1 I.c2 I.c3 I.c4 y _ h0.symm 3 h1).2.2.2.1 rfl)
  have e5 : ∀ i, _ = Ins.seg I.c4 j i := fun i => by
    obtain ⟨y, h1, h0, e⟩ := key _ (k1_off5_inb _ (chk_ofNat j hj)) 4 o5 i
    exact e.trans ((cols_at g I.c0 I.c1 I.c2 I.c3 I.c4 y _ h0.symm 4 h1).2.2.2.2 rfl)
  rw [funext e1, funext e2, funext e3, funext e4, funext e5]

/-! ## Loads through a rectangle of a whole buffer -/

theorem ld0_0 (f : S4x4096.Idx → Elt F .f32) : (Memref.whole cc1_stg0_0 : Memref sig .tc .vmem S4x4096 .f32).view.readAt (Elt F) (Rect.unit (s := S4x4096) ![0, 0] S1x4096.size inb_S4x4096_S1x4096_0_0).toLoadRect f = Ins.row4 f 0 :=
  funext fun i => congrArg f (funext fun a => Fin.ext (by
    have h0 : (i 0).val = 0 := Nat.lt_one_iff.mp (i 0).isLt
    fin_cases a
    · show 0 + 1 * (i 0).val = 0; omega
    · show 0 + 1 * (i 1).val = (i 1).val; omega))

theorem ld0_1 (f : S4x4096.Idx → Elt F .f32) : (Memref.whole cc1_stg0_0 : Memref sig .tc .vmem S4x4096 .f32).view.readAt (Elt F) (Rect.unit (s := S4x4096) ![1, 0] S1x4096.size inb_S4x4096_S1x4096_1_0).toLoadRect f = Ins.row4 f 1 :=
  funext fun i => congrArg f (funext fun a => Fin.ext (by
    have h0 : (i 0).val = 0 := Nat.lt_one_iff.mp (i 0).isLt
    fin_cases a
    · show 1 + 1 * (i 0).val = 1; omega
    · show 0 + 1 * (i 1).val = (i 1).val; omega))

theorem ld0_2 (f : S4x4096.Idx → Elt F .f32) : (Memref.whole cc1_stg0_0 : Memref sig .tc .vmem S4x4096 .f32).view.readAt (Elt F) (Rect.unit (s := S4x4096) ![2, 0] S1x4096.size inb_S4x4096_S1x4096_2_0).toLoadRect f = Ins.row4 f 2 :=
  funext fun i => congrArg f (funext fun a => Fin.ext (by
    have h0 : (i 0).val = 0 := Nat.lt_one_iff.mp (i 0).isLt
    fin_cases a
    · show 2 + 1 * (i 0).val = 2; omega
    · show 0 + 1 * (i 1).val = (i 1).val; omega))

theorem ld0_3 (f : S4x4096.Idx → Elt F .f32) : (Memref.whole cc1_stg0_0 : Memref sig .tc .vmem S4x4096 .f32).view.readAt (Elt F) (Rect.unit (s := S4x4096) ![3, 0] S1x4096.size inb_S4x4096_S1x4096_3_0).toLoadRect f = Ins.row4 f 3 :=
  funext fun i => congrArg f (funext fun a => Fin.ext (by
    have h0 : (i 0).val = 0 := Nat.lt_one_iff.mp (i 0).isLt
    fin_cases a
    · show 3 + 1 * (i 0).val = 3; omega
    · show 0 + 1 * (i 1).val = (i 1).val; omega))

theorem ld1_0 (f : S4x4096.Idx → Elt F .f32) : (Memref.whole cc1_stg1_0 : Memref sig .tc .vmem S4x4096 .f32).view.readAt (Elt F) (Rect.unit (s := S4x4096) ![0, 0] S1x4096.size inb_S4x4096_S1x4096_0_0).toLoadRect f = Ins.row4 f 0 :=
  funext fun i => congrArg f (funext fun a => Fin.ext (by
    have h0 : (i 0).val = 0 := Nat.lt_one_iff.mp (i 0).isLt
    fin_cases a
    · show 0 + 1 * (i 0).val = 0; omega
    · show 0 + 1 * (i 1).val = (i 1).val; omega))

theorem ld1_1 (f : S4x4096.Idx → Elt F .f32) : (Memref.whole cc1_stg1_0 : Memref sig .tc .vmem S4x4096 .f32).view.readAt (Elt F) (Rect.unit (s := S4x4096) ![1, 0] S1x4096.size inb_S4x4096_S1x4096_1_0).toLoadRect f = Ins.row4 f 1 :=
  funext fun i => congrArg f (funext fun a => Fin.ext (by
    have h0 : (i 0).val = 0 := Nat.lt_one_iff.mp (i 0).isLt
    fin_cases a
    · show 1 + 1 * (i 0).val = 1; omega
    · show 0 + 1 * (i 1).val = (i 1).val; omega))

theorem ld1_2 (f : S4x4096.Idx → Elt F .f32) : (Memref.whole cc1_stg1_0 : Memref sig .tc .vmem S4x4096 .f32).view.readAt (Elt F) (Rect.unit (s := S4x4096) ![2, 0] S1x4096.size inb_S4x4096_S1x4096_2_0).toLoadRect f = Ins.row4 f 2 :=
  funext fun i => congrArg f (funext fun a => Fin.ext (by
    have h0 : (i 0).val = 0 := Nat.lt_one_iff.mp (i 0).isLt
    fin_cases a
    · show 2 + 1 * (i 0).val = 2; omega
    · show 0 + 1 * (i 1).val = (i 1).val; omega))

theorem ld1_3 (f : S4x4096.Idx → Elt F .f32) : (Memref.whole cc1_stg1_0 : Memref sig .tc .vmem S4x4096 .f32).view.readAt (Elt F) (Rect.unit (s := S4x4096) ![3, 0] S1x4096.size inb_S4x4096_S1x4096_3_0).toLoadRect f = Ins.row4 f 3 :=
  funext fun i => congrArg f (funext fun a => Fin.ext (by
    have h0 : (i 0).val = 0 := Nat.lt_one_iff.mp (i 0).isLt
    fin_cases a
    · show 3 + 1 * (i 0).val = 3; omega
    · show 0 + 1 * (i 1).val = (i 1).val; omega))

theorem ld2_0 (f : S2x4096.Idx → Elt F .f32) : (Memref.whole cc1_stg2_0 : Memref sig .tc .vmem S2x4096 .f32).view.readAt (Elt F) (Rect.unit (s := S2x4096) ![0, 0] S1x4096.size inb_S2x4096_S1x4096_0_0).toLoadRect f = Ins.row2 f 0 :=
  funext fun i => congrArg f (funext fun a => Fin.ext (by
    have h0 : (i 0).val = 0 := Nat.lt_one_iff.mp (i 0).isLt
    fin_cases a
    · show 0 + 1 * (i 0).val = 0; omega
    · show 0 + 1 * (i 1).val = (i 1).val; omega))

theorem ld2_1 (f : S2x4096.Idx → Elt F .f32) : (Memref.whole cc1_stg2_0 : Memref sig .tc .vmem S2x4096 .f32).view.readAt (Elt F) (Rect.unit (s := S2x4096) ![1, 0] S1x4096.size inb_S2x4096_S1x4096_1_0).toLoadRect f = Ins.row2 f 1 :=
  funext fun i => congrArg f (funext fun a => Fin.ext (by
    have h0 : (i 0).val = 0 := Nat.lt_one_iff.mp (i 0).isLt
    fin_cases a
    · show 1 + 1 * (i 0).val = 1; omega
    · show 0 + 1 * (i 1).val = (i 1).val; omega))

theorem ld3_0 (f : S4096x4.Idx → Elt F .f32) : (Memref.whole cc1_stg3_0 : Memref sig .tc .vmem S4096x4 .f32).view.readAt (Elt F) (Rect.unit (s := S4096x4) ![0, 0] S4096x1.size inb_S4096x4_S4096x1_0_0).toLoadRect f = Ins.col4 f 0 :=
  funext fun i => congrArg f (funext fun a => Fin.ext (by
    have h1 : (i 1).val = 0 := Nat.lt_one_iff.mp (i 1).isLt
    fin_cases a
    · show 0 + 1 * (i 0).val = (i 0).val; omega
    · show 0 + 1 * (i 1).val = 0; omega))

theorem ld3_1 (f : S4096x4.Idx → Elt F .f32) : (Memref.whole cc1_stg3_0 : Memref sig .tc .vmem S4096x4 .f32).view.readAt (Elt F) (Rect.unit (s := S4096x4) ![0, 1] S4096x1.size inb_S4096x4_S4096x1_0_1).toLoadRect f = Ins.col4 f 1 :=
  funext fun i => congrArg f (funext fun a => Fin.ext (by
    have h1 : (i 1).val = 0 := Nat.lt_one_iff.mp (i 1).isLt
    fin_cases a
    · show 0 + 1 * (i 0).val = (i 0).val; omega
    · show 1 + 1 * (i 1).val = 1; omega))

theorem ld3_2 (f : S4096x4.Idx → Elt F .f32) : (Memref.whole cc1_stg3_0 : Memref sig .tc .vmem S4096x4 .f32).view.readAt (Elt F) (Rect.unit (s := S4096x4) ![0, 2] S4096x1.size inb_S4096x4_S4096x1_0_2).toLoadRect f = Ins.col4 f 2 :=
  funext fun i => congrArg f (funext fun a => Fin.ext (by
    have h1 : (i 1).val = 0 := Nat.lt_one_iff.mp (i 1).isLt
    fin_cases a
    · show 0 + 1 * (i 0).val = (i 0).val; omega
    · show 2 + 1 * (i 1).val = 2; omega))

theorem ld3_3 (f : S4096x4.Idx → Elt F .f32) : (Memref.whole cc1_stg3_0 : Memref sig .tc .vmem S4096x4 .f32).view.readAt (Elt F) (Rect.unit (s := S4096x4) ![0, 3] S4096x1.size inb_S4096x4_S4096x1_0_3).toLoadRect f = Ins.col4 f 3 :=
  funext fun i => congrArg f (funext fun a => Fin.ext (by
    have h1 : (i 1).val = 0 := Nat.lt_one_iff.mp (i 1).isLt
    fin_cases a
    · show 0 + 1 * (i 0).val = (i 0).val; omega
    · show 3 + 1 * (i 1).val = 3; omega))

theorem ld4_0 (f : S4096x4.Idx → Elt F .f32) : (Memref.whole cc1_stg4_0 : Memref sig .tc .vmem S4096x4 .f32).view.readAt (Elt F) (Rect.unit (s := S4096x4) ![0, 0] S4096x1.size inb_S4096x4_S4096x1_0_0).toLoadRect f = Ins.col4 f 0 :=
  funext fun i => congrArg f (funext fun a => Fin.ext (by
    have h1 : (i 1).val = 0 := Nat.lt_one_iff.mp (i 1).isLt
    fin_cases a
    · show 0 + 1 * (i 0).val = (i 0).val; omega
    · show 0 + 1 * (i 1).val = 0; omega))

theorem ld4_1 (f : S4096x4.Idx → Elt F .f32) : (Memref.whole cc1_stg4_0 : Memref sig .tc .vmem S4096x4 .f32).view.readAt (Elt F) (Rect.unit (s := S4096x4) ![0, 1] S4096x1.size inb_S4096x4_S4096x1_0_1).toLoadRect f = Ins.col4 f 1 :=
  funext fun i => congrArg f (funext fun a => Fin.ext (by
    have h1 : (i 1).val = 0 := Nat.lt_one_iff.mp (i 1).isLt
    fin_cases a
    · show 0 + 1 * (i 0).val = (i 0).val; omega
    · show 1 + 1 * (i 1).val = 1; omega))

theorem ld4_2 (f : S4096x4.Idx → Elt F .f32) : (Memref.whole cc1_stg4_0 : Memref sig .tc .vmem S4096x4 .f32).view.readAt (Elt F) (Rect.unit (s := S4096x4) ![0, 2] S4096x1.size inb_S4096x4_S4096x1_0_2).toLoadRect f = Ins.col4 f 2 :=
  funext fun i => congrArg f (funext fun a => Fin.ext (by
    have h1 : (i 1).val = 0 := Nat.lt_one_iff.mp (i 1).isLt
    fin_cases a
    · show 0 + 1 * (i 0).val = (i 0).val; omega
    · show 2 + 1 * (i 1).val = 2; omega))

theorem ld4_3 (f : S4096x4.Idx → Elt F .f32) : (Memref.whole cc1_stg4_0 : Memref sig .tc .vmem S4096x4 .f32).view.readAt (Elt F) (Rect.unit (s := S4096x4) ![0, 3] S4096x1.size inb_S4096x4_S4096x1_0_3).toLoadRect f = Ins.col4 f 3 :=
  funext fun i => congrArg f (funext fun a => Fin.ext (by
    have h1 : (i 1).val = 0 := Nat.lt_one_iff.mp (i 1).isLt
    fin_cases a
    · show 0 + 1 * (i 0).val = (i 0).val; omega
    · show 3 + 1 * (i 1).val = 3; omega))

theorem ld6_0 (f : S1x2.Idx → Elt F .f32) : (Memref.whole cc1_stg6_0 : Memref sig .tc .vmem S1x2 .f32).view.readAt (Elt F) (Rect.unit (s := S1x2) ![0, 0] S1x1.size inb_S1x2_S1x1_0_0).toLoadRect f = Ins.pt2 f 0 :=
  funext fun i => congrArg f (funext fun a => Fin.ext (by
    have h0 : (i 0).val = 0 := Nat.lt_one_iff.mp (i 0).isLt
    have h1 : (i 1).val = 0 := Nat.lt_one_iff.mp (i 1).isLt
    fin_cases a
    · show 0 + 1 * (i 0).val = 0; omega
    · show 0 + 1 * (i 1).val = 0; omega))

theorem ld6_1 (f : S1x2.Idx → Elt F .f32) : (Memref.whole cc1_stg6_0 : Memref sig .tc .vmem S1x2 .f32).view.readAt (Elt F) (Rect.unit (s := S1x2) ![0, 1] S1x1.size inb_S1x2_S1x1_0_1).toLoadRect f = Ins.pt2 f 1 :=
  funext fun i => congrArg f (funext fun a => Fin.ext (by
    have h0 : (i 0).val = 0 := Nat.lt_one_iff.mp (i 0).isLt
    have h1 : (i 1).val = 0 := Nat.lt_one_iff.mp (i 1).isLt
    fin_cases a
    · show 0 + 1 * (i 0).val = 0; omega
    · show 1 + 1 * (i 1).val = 1; omega))

theorem ld5 (f : S4096x1.Idx → Elt F .f32) : (Memref.whole cc1_stg5_0 : Memref sig .tc .vmem S4096x1 .f32).view.readAt (Elt F) (Rect.unit (s := S4096x1) ![0, 0] S4096x1.size inb_S4096x1_S4096x1_0_0).toLoadRect f = f :=
  Memref.read_access_unit_zero (Elt F) cc1_stg5_0 (funext fun a => by fin_cases a <;> rfl) _ f

theorem wr8 (f v : S1x4096.Idx → Elt F .f32) : ((Memref.whole cc1_stg8_0).access (Rect.unit (s := S1x4096) ![0, 0] S1x4096.size inb_S1x4096_S1x4096_0_0) : View sig .tc _ _ _).write (Elt F) f v Finset.univ = v :=
  Memref.write_access_unit_zero_univ (Elt F) cc1_stg8_0 (funext fun a => by fin_cases a <;> rfl) _ f v

end Cert.Proof.KI

end
-- ==== Proof.KI.Main.lean ====
/-
  The run of the second kernel's body: from the operands' blocks it leaves the boxes and the kept scores.
-/
module

public import proofs.«01_k».proof.Proof.KI.Nms

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on the staging buffers. -/
abbrev nmsBody : Prog (TpuEff nD τ sig (Elt F) (Λ₀ F) .tc) PUnit :=
  cc1__nms_kernel (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_stg8_0) (Memref.isWhole_whole _) colM (Memref.isWhole_whole _) strM (Memref.isWhole_whole _)

/-- What the four row stores leave. -/
theorem boxes_eq (I : Ins F) (f : S4x4096.Idx → Elt F .f32) :
    ((Memref.whole cc1_stg7_0).access (Rect.unit (s := S4x4096) ![3, 0] S1x4096.size inb_S4x4096_S1x4096_3_0) : View sig .tc _ _ _).write (Elt F)
      (((Memref.whole cc1_stg7_0).access (Rect.unit (s := S4x4096) ![2, 0] S1x4096.size inb_S4x4096_S1x4096_2_0) : View sig .tc _ _ _).write (Elt F)
        (((Memref.whole cc1_stg7_0).access (Rect.unit (s := S4x4096) ![1, 0] S1x4096.size inb_S4x4096_S1x4096_1_0) : View sig .tc _ _ _).write (Elt F)
          (((Memref.whole cc1_stg7_0).access (Rect.unit (s := S4x4096) ![0, 0] S1x4096.size inb_S4x4096_S1x4096_0_0) : View sig .tc _ _ _).write (Elt F)
            f I.b0 Finset.univ) I.b1 Finset.univ) I.b2 Finset.univ) I.b3 Finset.univ = I.boxes :=
  funext fun y => wr_rows f I.b0 I.b1 I.b2 I.b3 y _ rfl

set_option maxHeartbeats 8000000 in
/-- The run of the body, every buffer whole: the operands' are left as they were, the two results' at the boxes and the
    kept scores. -/
theorem nms_run (c : Dev nD) (I : Ins F) (f7 : S4x4096.Idx → Elt F .f32) (f8 : S1x4096.Idx → Elt F .f32) (g : S4096x8.Idx → Elt F .f32) (E : Set ℕ) (Q : PUnit → sProp 𝕄) :
    iprop((((c : Thread nD τ).loc cc1_stg0_0) ↦{fullShare} (I.a0 : Buf (Elt F) ((c : Thread nD τ).loc cc1_stg0_0)))
      ∗ (((c : Thread nD τ).loc cc1_stg1_0) ↦{fullShare} (I.a1 : Buf (Elt F) ((c : Thread nD τ).loc cc1_stg1_0)))
      ∗ (((c : Thread nD τ).loc cc1_stg2_0) ↦{fullShare} (I.a2 : Buf (Elt F) ((c : Thread nD τ).loc cc1_stg2_0)))
      ∗ (((c : Thread nD τ).loc cc1_stg3_0) ↦{fullShare} (I.a3 : Buf (Elt F) ((c : Thread nD τ).loc cc1_stg3_0)))
      ∗ (((c : Thread nD τ).loc cc1_stg4_0) ↦{fullShare} (I.a4 : Buf (Elt F) ((c : Thread nD τ).loc cc1_stg4_0)))
      ∗ (((c : Thread nD τ).loc cc1_stg5_0) ↦{fullShare} (I.a5 : Buf (Elt F) ((c : Thread nD τ).loc cc1_stg5_0)))
      ∗ (((c : Thread nD τ).loc cc1_stg6_0) ↦{fullShare} (I.a6 : Buf (Elt F) ((c : Thread nD τ).loc cc1_stg6_0)))
      ∗ (((c : Thread nD τ).loc cc1_stg7_0) ↦{fullShare} (f7 : Buf (Elt F) ((c : Thread nD τ).loc cc1_stg7_0))) ∗ (((c : Thread nD τ).loc cc1_stg8_0) ↦{fullShare} (f8 : Buf (Elt F) ((c : Thread nD τ).loc cc1_stg8_0)))
      ∗ heldS c g
      ∗ (iprop((((c : Thread nD τ).loc cc1_stg0_0) ↦{fullShare} (I.a0 : Buf (Elt F) ((c : Thread nD τ).loc cc1_stg0_0)))
      ∗ (((c : Thread nD τ).loc cc1_stg1_0) ↦{fullShare} (I.a1 : Buf (Elt F) ((c : Thread nD τ).loc cc1_stg1_0)))
      ∗ (((c : Thread nD τ).loc cc1_stg2_0) ↦{fullShare} (I.a2 : Buf (Elt F) ((c : Thread nD τ).loc cc1_stg2_0)))
      ∗ (((c : Thread nD τ).loc cc1_stg3_0) ↦{fullShare} (I.a3 : Buf (Elt F) ((c : Thread nD τ).loc cc1_stg3_0)))
      ∗ (((c : Thread nD τ).loc cc1_stg4_0) ↦{fullShare} (I.a4 : Buf (Elt F) ((c : Thread nD τ).loc cc1_stg4_0)))
      ∗ (((c : Thread nD τ).loc cc1_stg5_0) ↦{fullShare} (I.a5 : Buf (Elt F) ((c : Thread nD τ).loc cc1_stg5_0)))
      ∗ (((c : Thread nD τ).loc cc1_stg6_0) ↦{fullShare} (I.a6 : Buf (Elt F) ((c : Thread nD τ).loc cc1_stg6_0)))
      ∗ (((c : Thread nD τ).loc cc1_stg7_0) ↦{fullShare} (I.boxes : Buf (Elt F) ((c : Thread nD τ).loc cc1_stg7_0))) ∗ (((c : Thread nD τ).loc cc1_stg8_0) ↦{fullShare} (I.kept : Buf (Elt F) ((c : Thread nD τ).loc cc1_stg8_0)))
      ∗ ∃ g' : S4096x8.Idx → Elt F .f32, heldS c g') -∗ Q ⟨⟩))
      ⊢ wp frame (wpE (defs₀ (F := F)) 𝒱₀ (c : Thread nD τ) none) E nmsBody Q := by
  unfold nmsBody
  simp only [cc1__nms_kernel_eq_skeleton]; unfold cc1__nms_kernel_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  simp only [Prog.lift, Prog.bind_op, Prog.bind_ret, Prog.pure_eq_ret, Prog.bind_assoc]
  unfold heldS
  iintro ⟨H0, H1, H2, H3, H4, H5, H6, H7, H8, ⟨H9, %gs, H10⟩, Hk⟩
  iapply (wp_load 𝒱₀ (c : Thread nD τ) none E (m := Memref.whole cc1_stg6_0) (Finset.subset_univ _)) $$ H6; iintro H6
  iapply (wp_load 𝒱₀ (c : Thread nD τ) none E (m := Memref.whole cc1_stg6_0) (Finset.subset_univ _)) $$ H6; iintro H6
  iapply (wp_load 𝒱₀ (c : Thread nD τ) none E (m := Memref.whole cc1_stg0_0) (Finset.subset_univ _)) $$ H0; iintro H0
  iapply (wp_load 𝒱₀ (c : Thread nD τ) none E (m := Memref.whole cc1_stg0_0) (Finset.subset_univ _)) $$ H0; iintro H0
  iapply (wp_load 𝒱₀ (c : Thread nD τ) none E (m := Memref.whole cc1_stg0_0) (Finset.subset_univ _)) $$ H0; iintro H0
  iapply (wp_load 𝒱₀ (c : Thread nD τ) none E (m := Memref.whole cc1_stg0_0) (Finset.subset_univ _)) $$ H0; iintro H0
  iapply (wp_load 𝒱₀ (c : Thread nD τ) none E (m := Memref.whole cc1_stg1_0) (Finset.subset_univ _)) $$ H1; iintro H1
  iapply (wp_load 𝒱₀ (c : Thread nD τ) none E (m := Memref.whole cc1_stg1_0) (Finset.subset_univ _)) $$ H1; iintro H1
  iapply (wp_load 𝒱₀ (c : Thread nD τ) none E (m := Memref.whole cc1_stg1_0) (Finset.subset_univ _)) $$ H1; iintro H1
  iapply (wp_load 𝒱₀ (c : Thread nD τ) none E (m := Memref.whole cc1_stg1_0) (Finset.subset_univ _)) $$ H1; iintro H1
  iapply (wp_load 𝒱₀ (c : Thread nD τ) none E (m := Memref.whole cc1_stg7_0) (Finset.subset_univ _)) $$ H7; iintro H7
  iapply (wp_store 𝒱₀ (c : Thread nD τ) none E (m := Memref.whole cc1_stg7_0) (r := Rect.unit (s := S4x4096) ![0, 0] S1x4096.size inb_S4x4096_S1x4096_0_0) (Mk := Finset.univ) (Finset.subset_univ _)) $$ H7; iintro H7
  iapply (wp_load 𝒱₀ (c : Thread nD τ) none E (m := Memref.whole cc1_stg7_0) (Finset.subset_univ _)) $$ H7; iintro H7
  iapply (wp_store 𝒱₀ (c : Thread nD τ) none E (m := Memref.whole cc1_stg7_0) (r := Rect.unit (s := S4x4096) ![1, 0] S1x4096.size inb_S4x4096_S1x4096_1_0) (Mk := Finset.univ) (Finset.subset_univ _)) $$ H7; iintro H7
  iapply (wp_load 𝒱₀ (c : Thread nD τ) none E (m := Memref.whole cc1_stg7_0) (Finset.subset_univ _)) $$ H7; iintro H7
  iapply (wp_store 𝒱₀ (c : Thread nD τ) none E (m := Memref.whole cc1_stg7_0) (r := Rect.unit (s := S4x4096) ![2, 0] S1x4096.size inb_S4x4096_S1x4096_2_0) (Mk := Finset.univ) (Finset.subset_univ _)) $$ H7; iintro H7
  iapply (wp_load 𝒱₀ (c : Thread nD τ) none E (m := Memref.whole cc1_stg7_0) (Finset.subset_univ _)) $$ H7; iintro H7
  iapply (wp_store 𝒱₀ (c : Thread nD τ) none E (m := Memref.whole cc1_stg7_0) (r := Rect.unit (s := S4x4096) ![3, 0] S1x4096.size inb_S4x4096_S1x4096_3_0) (Mk := Finset.univ) (Finset.subset_univ _)) $$ H7; iintro H7
  iapply (wp_load 𝒱₀ (c : Thread nD τ) none E (m := Memref.whole cc1_stg2_0) (Finset.subset_univ _)) $$ H2; iintro H2
  iapply (wp_load 𝒱₀ (c : Thread nD τ) none E (m := Memref.whole cc1_stg2_0) (Finset.subset_univ _)) $$ H2; iintro H2
  iapply (wp_load 𝒱₀ (c : Thread nD τ) none E (m := Memref.whole cc1_stg3_0) (Finset.subset_univ _)) $$ H3; iintro H3
  iapply (wp_load 𝒱₀ (c : Thread nD τ) none E (m := Memref.whole cc1_stg3_0) (Finset.subset_univ _)) $$ H3; iintro H3
  iapply (wp_load 𝒱₀ (c : Thread nD τ) none E (m := Memref.whole cc1_stg3_0) (Finset.subset_univ _)) $$ H3; iintro H3
  iapply (wp_load 𝒱₀ (c : Thread nD τ) none E (m := Memref.whole cc1_stg3_0) (Finset.subset_univ _)) $$ H3; iintro H3
  iapply (wp_load 𝒱₀ (c : Thread nD τ) none E (m := Memref.whole cc1_stg4_0) (Finset.subset_univ _)) $$ H4; iintro H4
  iapply (wp_load 𝒱₀ (c : Thread nD τ) none E (m := Memref.whole cc1_stg4_0) (Finset.subset_univ _)) $$ H4; iintro H4
  iapply (wp_load 𝒱₀ (c : Thread nD τ) none E (m := Memref.whole cc1_stg4_0) (Finset.subset_univ _)) $$ H4; iintro H4
  iapply (wp_load 𝒱₀ (c : Thread nD τ) none E (m := Memref.whole cc1_stg4_0) (Finset.subset_univ _)) $$ H4; iintro H4
  iapply (wp_load 𝒱₀ (c : Thread nD τ) none E (m := Memref.whole cc1_stg5_0) (Finset.subset_univ _)) $$ H5; iintro H5
  iapply (wp_load 𝒱₀ (c : Thread nD τ) none E (m := colM) (Finset.subset_univ _)) $$ H9; iintro H9
  iapply (wp_store 𝒱₀ (c : Thread nD τ) none E (m := colM) (r := Rect.unit (s := S4096x8) ![0, 0] S4096x1.size inb_S4096x8_S4096x1_0_0) (Mk := Finset.univ) (Finset.subset_univ _)) $$ H9; iintro H9
  iapply (wp_load 𝒱₀ (c : Thread nD τ) none E (m := colM) (Finset.subset_univ _)) $$ H9; iintro H9
  iapply (wp_store 𝒱₀ (c : Thread nD τ) none E (m := colM) (r := Rect.unit (s := S4096x8) ![0, 1] S4096x1.size inb_S4096x8_S4096x1_0_1) (Mk := Finset.univ) (Finset.subset_univ _)) $$ H9; iintro H9
  iapply (wp_load 𝒱₀ (c : Thread nD τ) none E (m := colM) (Finset.subset_univ _)) $$ H9; iintro H9
  iapply (wp_store 𝒱₀ (c : Thread nD τ) none E (m := colM) (r := Rect.unit (s := S4096x8) ![0, 2] S4096x1.size inb_S4096x8_S4096x1_0_2) (Mk := Finset.univ) (Finset.subset_univ _)) $$ H9; iintro H9
  iapply (wp_load 𝒱₀ (c : Thread nD τ) none E (m := colM) (Finset.subset_univ _)) $$ H9; iintro H9
  iapply (wp_store 𝒱₀ (c : Thread nD τ) none E (m := colM) (r := Rect.unit (s := S4096x8) ![0, 3] S4096x1.size inb_S4096x8_S4096x1_0_3) (Mk := Finset.univ) (Finset.subset_univ _)) $$ H9; iintro H9
  iapply (wp_load 𝒱₀ (c : Thread nD τ) none E (m := colM) (Finset.subset_univ _)) $$ H9; iintro H9
  iapply (wp_store 𝒱₀ (c : Thread nD τ) none E (m := colM) (r := Rect.unit (s := S4096x8) ![0, 4] S4096x1.size inb_S4096x8_S4096x1_0_4) (Mk := Finset.univ) (Finset.subset_univ _)) $$ H9; iintro H9
  rw [ld6_1, ld6_0, ld0_0, ld0_1, ld0_2, ld0_3, ld1_0, ld1_1, ld1_2, ld1_3, ld2_0, ld2_1, ld3_0, ld3_1, ld3_2, ld3_3, ld4_0, ld4_1, ld4_2, ld4_3, ld5]
  iapply (wp_call_spec 𝒱₀ (c : Thread nD τ) none E
    (spec c (cols g I.c0 I.c1 I.c2 I.c3 I.c4) Ins.lane I.strip 32 0 I.keep0 (Scalar.ofBits .f32 0x00000000#32)) 32
    (fun u hu => nomatch hu)
    (spec_le c (cols g I.c0 I.c1 I.c2 I.c3 I.c4) I.x1 I.y1 I.x2 I.y2 I.ar Ins.lane I.strip E (strip_cols I g) 32 0 rfl _ _))
  rw [spec_apply]; unfold heldS
  isplitl [H9 H10]
  · isplitl [H9]; · iexact H9
    iexists _; iexact H10
  iintro ⟨H9, %gs', H10⟩
  iapply (wp_load 𝒱₀ (c : Thread nD τ) none E (m := Memref.whole cc1_stg8_0) (Finset.subset_univ _)) $$ H8; iintro H8
  iapply (wp_store 𝒱₀ (c : Thread nD τ) none E (m := Memref.whole cc1_stg8_0) (r := Rect.unit (s := S1x4096) ![0, 0] S1x4096.size inb_S1x4096_S1x4096_0_0) (Mk := Finset.univ) (Finset.subset_univ _)) $$ H8; iintro H8
  rw [wr8, wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [← boxes_eq I f7]; iexact H7
  isplitl [H8]; · iexact H8
  iexists _
  isplitl [H9]; · iexact H9
  iexists _; iexact H10

end Cert.Proof.KI

end
-- ==== Proof.KI.Region.lean ====
/-
  The second region's proof data and its body obligation.
-/
module

public import proofs.«01_k».proof.Proof.KI.Main
public import proofs.«01_k».proof.Proof.Gen.KernelIdeal.Regions

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The seven operands' blocks of the second kernel at the entry valuation: its one point's are the arrays whole. -/
def insV (c : Dev nD) (t : Fin (cfg1 (F := F)).N) : Ins F where
  a0 := (((cfg1 (F := F)).win 0).blk t).view.read (Elt F) (V c main_call0_v30)
  a1 := (((cfg1 (F := F)).win 1).blk t).view.read (Elt F) (V c main_call0_v31)
  a2 := (((cfg1 (F := F)).win 2).blk t).view.read (Elt F) (V c main_call0_v27)
  a3 := (((cfg1 (F := F)).win 3).blk t).view.read (Elt F) (V c main_call0_v6)
  a4 := (((cfg1 (F := F)).win 4).blk t).view.read (Elt F) (V c main_call0_v23)
  a5 := (((cfg1 (F := F)).win 5).blk t).view.read (Elt F) (V c main_call0_v32)
  a6 := (((cfg1 (F := F)).win 6).blk t).view.read (Elt F) (V c main_call0_v29)

/-- What rides along: the scoped buffers the second pipeline does not stage, its scratch among them. -/
abbrev Φ1 (c : Dev nD) : sProp 𝕄 := Pipeline.scopedRest (Ix := Unit) (Name := ℕ) (U := UR sig nD τ) (Lvl := ℕ) (Val := Elt F) spec1 c

/-- The proof data of the second region entered at `V`. -/
def dat1 (c : Dev nD) : Dat τ (Elt F) Unit ℕ (UR sig nD τ) ℕ (cfg1 (F := F)) c where
  A w := V c (Pipeline.arrRef spec1 w)
  after w t := match w with
    | ⟨0, _⟩ => (insV V c t).a0
    | ⟨1, _⟩ => (insV V c t).a1
    | ⟨2, _⟩ => (insV V c t).a2
    | ⟨3, _⟩ => (insV V c t).a3
    | ⟨4, _⟩ => (insV V c t).a4
    | ⟨5, _⟩ => (insV V c t).a5
    | ⟨6, _⟩ => (insV V c t).a6
    | ⟨7, _⟩ => (insV V c t).boxes
    | ⟨8, _⟩ => (insV V c t).kept
  Φ _ := Φ1 c
  q _ := fullShare
  owed _ := 0

theorem before1_0 (c : Dev nD) (d) : (dat1 V c).before 0 t1_0 d = (insV V c t1_0).a0 := by
  unfold Dat.before; rw [if_pos (fetch1_0 t1_0)]; rfl

theorem before1_1 (c : Dev nD) (d) : (dat1 V c).before 1 t1_0 d = (insV V c t1_0).a1 := by
  unfold Dat.before; rw [if_pos (fetch1_1 t1_0)]; rfl

theorem before1_2 (c : Dev nD) (d) : (dat1 V c).before 2 t1_0 d = (insV V c t1_0).a2 := by
  unfold Dat.before; rw [if_pos (fetch1_2 t1_0)]; rfl

theorem before1_3 (c : Dev nD) (d) : (dat1 V c).before 3 t1_0 d = (insV V c t1_0).a3 := by
  unfold Dat.before; rw [if_pos (fetch1_3 t1_0)]; rfl

theorem before1_4 (c : Dev nD) (d) : (dat1 V c).before 4 t1_0 d = (insV V c t1_0).a4 := by
  unfold Dat.before; rw [if_pos (fetch1_4 t1_0)]; rfl

theorem before1_5 (c : Dev nD) (d) : (dat1 V c).before 5 t1_0 d = (insV V c t1_0).a5 := by
  unfold Dat.before; rw [if_pos (fetch1_5 t1_0)]; rfl

theorem before1_6 (c : Dev nD) (d) : (dat1 V c).before 6 t1_0 d = (insV V c t1_0).a6 := by
  unfold Dat.before; rw [if_pos (fetch1_6 t1_0)]; rfl

set_option maxHeartbeats 4000000 in
/-- The body obligation of the second region. -/
theorem body1 (c : Dev nD) : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Φ1 c from rfl, show (dat1 V c).Φ t1_0.succ = Φ1 c from rfl,
    show (dat1 V c).owesAt () t1_0.succ = (dat1 V c).owesAt () t1_0.castSucc from rfl]
  unfold Φ1
  rw [scopedRest1_eq]
  iintro ⟨⟨R0, R1, R2, R3, ⟨%g, R4⟩, R5⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  replace hf0 := hf0.trans (before1_0 V c d0)
  replace hf1 := hf1.trans (before1_1 V c d1)
  replace hf2 := hf2.trans (before1_2 V c d2)
  replace hf3 := hf3.trans (before1_3 V c d3)
  replace hf4 := hf4.trans (before1_4 V c d4)
  replace hf5 := hf5.trans (before1_5 V c d5)
  replace hf6 := hf6.trans (before1_6 V c d6)
  subst hf0
  subst hf1
  subst hf2
  subst hf3
  subst hf4
  subst hf5
  subst hf6
  iapply (nms_run c (insV V c t1_0) f7 f8 g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [R4 R5]
  · unfold heldS
    isplitl [R4]; · iexact R4
    iexact R5
  iintro ⟨H0, H1, H2, H3, H4, H5, H6, H7, H8, ⟨%g', Hs⟩⟩
  unfold heldS
  icases Hs with ⟨R4, R5⟩
  isplitl [R0 R1 R2 R3 R4 R5]
  · isplitl [R0]; · iexact R0
    isplitl [R1]; · iexact R1
    isplitl [R2]; · iexact R2
    isplitl [R3]; · iexact R3
    isplitl [R4]
    · iexists _; iexact R4
    iexact R5
  isplitl [Howes]; · iexact Howes
  isplitl [H0]
  · iexists _; isplitr; swap; (· iexact H0); ipureintro; dsimp only [dat1]
  isplitl [H1]
  · iexists _; isplitr; swap; (· iexact H1); ipureintro; dsimp only [dat1]
  isplitl [H2]
  · iexists _; isplitr; swap; (· iexact H2); ipureintro; dsimp only [dat1]
  isplitl [H3]
  · iexists _; isplitr; swap; (· iexact H3); ipureintro; dsimp only [dat1]
  isplitl [H4]
  · iexists _; isplitr; swap; (· iexact H4); ipureintro; dsimp only [dat1]
  isplitl [H5]
  · iexists _; isplitr; swap; (· iexact H5); ipureintro; dsimp only [dat1]
  isplitl [H6]
  · iexists _; isplitr; swap; (· iexact H6); ipureintro; dsimp only [dat1]
  isplitl [H7]
  · iexists _; isplitr; swap; (· iexact H7); ipureintro; dsimp only [dat1]
  iexists _; isplitr; swap; (· iexact H8); ipureintro; dsimp only [dat1]

end Cert.Proof.KI

end
-- ==== Proof.KI.Regs.lean ====
/-
  Both regions over the thread state, at any entry and exit valuations.
-/
module

public import proofs.«01_k».proof.Proof.KI.Region
public import proofs.«01_k».proof.Proof.Gen.KernelIdeal.Regions

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

/-! ## The valuations and the records -/

/-- A valuation read at the TensorCore's references. -/
abbrev onRefs (U : Dev nD → Valuation τ sig (Elt F)) : (c : Dev nD) → (b : Ref sig .tc) → Buf (Elt F) ((c : Thread nD τ).loc b) := fun c b => U c b

/-- The proof data of both pipelines. -/
def pdats (X0 X2 : Dev nD → Valuation τ sig (Elt F)) : (p : Fin 2) → (c : Dev nD) → Dat τ (Elt F) Unit ℕ (UR sig nD τ) ℕ ((cfgs (F := F)) p) c
  | ⟨0, _⟩ => fun c => dat0 (onRefs X0) c
  | ⟨1, _⟩ => fun c => dat1 (onRefs X2) c

abbrev L : GSem nD τ sig → Finset Unit := fun _ => ∅
abbrev lv : GSem nD τ sig → Unit → ℕ := fun _ _ => 0

/-- What a thread keeps beside its buffers: its promises, nothing owed. -/
abbrev rest (c : Dev nD) : sProp 𝕄 := iprop(∃ W, owes (c : Thread nD τ) (0 : CellTallies nD τ sig Unit) W)

/-- Region 0's arrays at its end are the exit valuation's. -/
theorem arr0 (X0 X2 Y : Dev nD → Valuation τ sig (Elt F)) (hne : ∀ c (b : Ref sig .tc), b ≠ main_call0_v0 → Y c b = X0 c b) (hY : ∀ c, Y c main_call0_v0 = (dat0 (onRefs X0) c).arrAt 1 (cfg0 (F := F)).N) (c : Dev nD) :
    ∀ w : Fin 2, (pdats X0 X2 0 c).arrAt w (cfg0 (F := F)).N = Y c (Pipeline.arrRef (spec0) w)
  | ⟨0, _⟩ => ((dat0 (onRefs X0) c).arrAt_in 0 rfl _).trans (hne c main_arg0 (by decide)).symm
  | ⟨1, _⟩ => (hY c).symm

set_option maxHeartbeats 400000 in
set_option backward.isDefEq.respectTransparency.types false in
/-- Region 0 over the thread state. -/
def reg0 (X0 X2 Y : Dev nD → Valuation τ sig (Elt F)) (hne : ∀ c (b : Ref sig .tc), b ≠ main_call0_v0 → Y c b = X0 c b) (hY : ∀ c, Y c main_call0_v0 = (dat0 (onRefs X0) c).arrAt 1 (cfg0 (F := F)).N) : RegionSeg (pcfgs (F := F)) adm (pdats X0 X2) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body0 (onRefs (X0)) c).loose
  hwaits := Pipeline.hwaits_of_owed_zero _ _ _ _ L lv 0 fun _ _ => rfl
  pre c := iprop(unscopedBufs c (fun b => X0 c b) ∗ rest c)
  post c := iprop(unscopedBufs c (fun b => Y c b) ∗ rest c)
  X _ := BI.emp
  Y _ := BI.emp
  Z c := iprop(Pipeline.unscopedRest (Ix := Unit) (Name := ℕ) (U := UR sig nD τ) (Lvl := ℕ) spec0 c (fun b => X0 c b))
  hentry c := by
    rw [Pipeline.ownSems0_none]
    have hsplit := Pipeline.arrays_of_unscopedBufs (p := 0) (pcfgs (F := F)) adm (pdats X0 X2) (launch0 (F := F)).win (launch0 (F := F)).arr_whole c
      ((pdats X0 X2 0 c).share_full fun _ => rfl) (fun b => X0 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats X0 X2 0 c).Φ 0 = Φ0 c from rfl]
    iintro ⟨-, -, Hr⟩; iexact Hr
  hout c := by
    rw [Pipeline.ownSems0_none, show (pdats X0 X2 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) (launch0 (F := F)).win (launch0 (F := F)).arr_whole c
      (pdats X0 X2) ((pdats X0 X2 0 c).share_full fun _ => rfl) (fun b => X0 c b) (fun b => Y c b) ((pdats X0 X2 0 c).arrAt · (cfg0 (F := F)).N)
      (fun w => arr0 X0 X2 Y hne hY c w)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Region 1's arrays at its end are the exit valuation's. -/
theorem arr1 (X0 X2 Y : Dev nD → Valuation τ sig (Elt F)) (hne : ∀ c (b : Ref sig .tc), b ≠ main_call0_v33_0 → b ≠ main_call0_v33_1 → Y c b = X2 c b) (h7 : ∀ c, Y c main_call0_v33_0 = (dat1 (onRefs X2) c).arrAt 7 (cfg1 (F := F)).N) (h8 : ∀ c, Y c main_call0_v33_1 = (dat1 (onRefs X2) c).arrAt 8 (cfg1 (F := F)).N) (c : Dev nD) :
    ∀ w : Fin 9, (pdats X0 X2 1 c).arrAt w (cfg1 (F := F)).N = Y c (Pipeline.arrRef (spec1) w)
  | ⟨0, _⟩ => ((dat1 (onRefs X2) c).arrAt_in 0 rfl _).trans (hne c main_call0_v30 (by decide) (by decide)).symm
  | ⟨1, _⟩ => ((dat1 (onRefs X2) c).arrAt_in 1 rfl _).trans (hne c main_call0_v31 (by decide) (by decide)).symm
  | ⟨2, _⟩ => ((dat1 (onRefs X2) c).arrAt_in 2 rfl _).trans (hne c main_call0_v27 (by decide) (by decide)).symm
  | ⟨3, _⟩ => ((dat1 (onRefs X2) c).arrAt_in 3 rfl _).trans (hne c main_call0_v6 (by decide) (by decide)).symm
  | ⟨4, _⟩ => ((dat1 (onRefs X2) c).arrAt_in 4 rfl _).trans (hne c main_call0_v23 (by decide) (by decide)).symm
  | ⟨5, _⟩ => ((dat1 (onRefs X2) c).arrAt_in 5 rfl _).trans (hne c main_call0_v32 (by decide) (by decide)).symm
  | ⟨6, _⟩ => ((dat1 (onRefs X2) c).arrAt_in 6 rfl _).trans (hne c main_call0_v29 (by decide) (by decide)).symm
  | ⟨7, _⟩ => (h7 c).symm
  | ⟨8, _⟩ => (h8 c).symm

set_option maxHeartbeats 400000 in
set_option backward.isDefEq.respectTransparency.types false in
/-- Region 1 over the thread state. -/
def reg1 (X0 X2 Y : Dev nD → Valuation τ sig (Elt F)) (hne : ∀ c (b : Ref sig .tc), b ≠ main_call0_v33_0 → b ≠ main_call0_v33_1 → Y c b = X2 c b) (h7 : ∀ c, Y c main_call0_v33_0 = (dat1 (onRefs X2) c).arrAt 7 (cfg1 (F := F)).N) (h8 : ∀ c, Y c main_call0_v33_1 = (dat1 (onRefs X2) c).arrAt 8 (cfg1 (F := F)).N) : RegionSeg (pcfgs (F := F)) adm (pdats X0 X2) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body1 (onRefs (X2)) c).loose
  hwaits := Pipeline.hwaits_of_owed_zero _ _ _ _ L lv 1 fun _ _ => rfl
  pre c := iprop(unscopedBufs c (fun b => X2 c b) ∗ rest c)
  post c := iprop(unscopedBufs c (fun b => Y c b) ∗ rest c)
  X _ := BI.emp
  Y _ := BI.emp
  Z c := iprop(Pipeline.unscopedRest (Ix := Unit) (Name := ℕ) (U := UR sig nD τ) (Lvl := ℕ) spec1 c (fun b => X2 c b))
  hentry c := by
    rw [Pipeline.ownSems0_none]
    have hsplit := Pipeline.arrays_of_unscopedBufs (p := 1) (pcfgs (F := F)) adm (pdats X0 X2) (launch1 (F := F)).win (launch1 (F := F)).arr_whole c
      ((pdats X0 X2 1 c).share_full fun _ => rfl) (fun b => X2 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats X0 X2 1 c).Φ 0 = Φ1 c from rfl]
    iintro ⟨-, -, Hr⟩; iexact Hr
  hout c := by
    rw [Pipeline.ownSems0_none, show (pdats X0 X2 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) (launch1 (F := F)).win (launch1 (F := F)).arr_whole c
      (pdats X0 X2) ((pdats X0 X2 1 c).share_full fun _ => rfl) (fun b => X2 c b) (fun b => Y c b) ((pdats X0 X2 1 c).arrAt · (cfg1 (F := F)).N)
      (fun w => arr1 X0 X2 Y hne h7 h8 c w)
      (fun b hb => hne c b (fun h => hb (h ▸ Finset.mem_image.mpr ⟨7, Finset.mem_univ _, rfl⟩))
        (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KI

end
-- ==== Proof.KI.Run.lean ====
/-
  Both regions over the thread state and the run of the whole program: every final state holds the arguments as launched,
  every semaphore at zero, and the results at the last valuation of the fold.
-/
module

public import proofs.«01_k».proof.Proof.KI.Regs
public import proofs.«01_k».proof.Proof.Gen.KernelIdeal.Regions

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

/-! ## The valuations -/

variable (m : (ℓ : Loc nD τ sig) → Buf (Elt F) ℓ) (ρ : Dev nD → PrngReg)

/-- What the first region leaves in its result's array. -/
def o0 (c : Dev nD) : Buf (Elt F) ((c : Thread nD τ).loc main_call0_v0) := (dat0 (onRefs (V0 m)) c).arrAt 1 (cfg0 (F := F)).N

/-- The valuation after the first region, and before the second. -/
def W1 (c : Dev nD) : Valuation τ sig (Elt F) := Function.update (V0 m c) main_call0_v0 (o0 m c)
def W2 (c : Dev nD) : Valuation τ sig (Elt F) := StableHlo.after hostOps1 (W1 m c)

/-- What the second region leaves in its two results' arrays. -/
def o7 (c : Dev nD) : Buf (Elt F) ((c : Thread nD τ).loc main_call0_v33_0) := (dat1 (onRefs (W2 m)) c).arrAt 7 (cfg1 (F := F)).N
def o8 (c : Dev nD) : Buf (Elt F) ((c : Thread nD τ).loc main_call0_v33_1) := (dat1 (onRefs (W2 m)) c).arrAt 8 (cfg1 (F := F)).N

/-- The valuation after the second region. -/
def W3 (c : Dev nD) : Valuation τ sig (Elt F) :=
  Function.update (Function.update (W2 m c) main_call0_v33_0 (o7 m c)) main_call0_v33_1 (o8 m c)

theorem W1_self (c : Dev nD) : W1 m c main_call0_v0 = o0 m c := Function.update_self _ _ _

theorem W1_ne (c : Dev nD) (b : Ref sig .tc) (h : b ≠ main_call0_v0) : W1 m c b = V0 m c b :=
  Function.update_of_ne ((Proc.devRef_injective .tc).ne h) _ _

theorem W3_8 (c : Dev nD) : W3 m c main_call0_v33_1 = o8 m c := Function.update_self _ _ _

theorem W3_7 (c : Dev nD) : W3 m c main_call0_v33_0 = o7 m c :=
  (Function.update_of_ne (by decide : (Proc.devRef .tc main_call0_v33_0 : DevRef τ sig) ≠ Proc.devRef .tc main_call0_v33_1) _ _).trans (Function.update_self _ _ _)

theorem W3_ne (c : Dev nD) (b : Ref sig .tc) (h7 : b ≠ main_call0_v33_0) (h8 : b ≠ main_call0_v33_1) : W3 m c b = W2 m c b :=
  (Function.update_of_ne ((Proc.devRef_injective .tc).ne h8) _ _).trans (Function.update_of_ne ((Proc.devRef_injective .tc).ne h7) _ _)

/-- The contents the regions leave. -/
def outs : Outs (F := F) := fun k r c => if k ≤ 1 then W1 m c r else W3 m c r

theorem outs_1 (r : Ref sig .tc) (c : Dev nD) : outs m 1 r c = W1 m c r := if_pos (le_refl 1)

theorem outs_3 (r : Ref sig .tc) (c : Dev nD) : outs m 3 r c = W3 m c r := if_neg (by decide)

theorem V1_eq (c : Dev nD) : V1 m (outs m) c = W1 m c := by
  funext b
  by_cases h : b = Proc.devRef .tc main_call0_v0
  · subst h
    exact (Function.update_self _ _ _).trans (outs_1 m main_call0_v0 c)
  · exact (Function.update_of_ne h _ _).trans (Function.update_of_ne h _ _).symm

theorem V2_eq (c : Dev nD) : V2 m (outs m) c = W2 m c := congrArg (StableHlo.after hostOps1) (V1_eq m c)

theorem V3_eq (c : Dev nD) : V3 m (outs m) c = W3 m c := by
  funext b
  by_cases h8 : b = Proc.devRef .tc main_call0_v33_1
  · subst h8
    exact (Function.update_self _ _ _).trans (outs_3 m main_call0_v33_1 c)
  · by_cases h7 : b = Proc.devRef .tc main_call0_v33_0
    · subst h7
      exact (Function.update_of_ne h8 _ _).trans ((Function.update_self _ _ _).trans (outs_3 m main_call0_v33_0 c))
    · exact (Function.update_of_ne h8 _ _).trans ((Function.update_of_ne h7 _ _).trans ((congrFun (V2_eq m c) b).trans
        ((Function.update_of_ne h8 _ _).trans (Function.update_of_ne h7 _ _)).symm))

theorem o0_eq (c : Dev nD) : W1 m c main_call0_v0 = (dat0 (onRefs (V0 m)) c).arrAt 1 (cfg0 (F := F)).N := W1_self m c
theorem o7_eq (c : Dev nD) : W3 m c main_call0_v33_0 = (dat1 (onRefs (W2 m)) c).arrAt 7 (cfg1 (F := F)).N := W3_7 m c
theorem o8_eq (c : Dev nD) : W3 m c main_call0_v33_1 = (dat1 (onRefs (W2 m)) c).arrAt 8 (cfg1 (F := F)).N := W3_8 m c

attribute [irreducible] W1 W2 W3 o0 o7 o8

/-! ## The run -/

/-- The rounds' place in the algebra. -/
abbrev EP : Emb (URounds (GSem nD τ sig) Unit) (MT nD τ sig Unit (Elt F) ℕ (UR sig nD τ) ℕ) := emb₁

/-- A stretch's buffers at one valuation are a region's entry buffers at an equal one. -/
theorem link (U : Dev nD → Valuation τ sig (Elt F)) (X : (c : Dev nD) → (b : Ref sig .tc) → Buf (Elt F) ((c : Thread nD τ).loc b))
    (h : ∀ c (b : Ref sig .tc), U c b = X c b) (c : Dev nD) :
    iprop(StableHlo.held (c : Thread nD τ) (Pipeline.ucRefs τ sig) (U c) ∗ rest c) ⊢ (iprop(unscopedBufs c (fun b => X c b) ∗ rest c) : sProp 𝕄) := by
  rw [show (fun b => X c b) = fun b : Ref sig .tc => U c b from funext fun b => (h c b).symm,
    ← Pipeline.unscopedBufs_held (Ix := Unit) (Name := ℕ) (U := UR sig nD τ) (Lvl := ℕ) c (U c)]

/-- A region's final buffers at one valuation are the next stretch's at an equal one. -/
theorem link' (X U : Dev nD → Valuation τ sig (Elt F)) (h : ∀ c, U c = X c) (c : Dev nD) :
    (iprop(unscopedBufs c (fun b => X c b) ∗ rest c) : sProp 𝕄) ⊢ iprop(StableHlo.held (c : Thread nD τ) (Pipeline.ucRefs τ sig) (U c) ∗ rest c) := by
  rw [h c, ← Pipeline.unscopedBufs_held (Ix := Unit) (Name := ℕ) (U := UR sig nD τ) (Lvl := ℕ) c (X c)]

/-- What the threads' rests are at each stretch. -/
abbrev restE : Fin 3 → Dev nD → sProp 𝕄 := fun _ c => rest c

theorem fund₀ : (ownU (initOf (Pipeline.cells (cfgs (F := F)) cellOf_inj) (Pipeline.launchToks (cfgs (F := F)) cellOf_inj)) : sProp 𝕄)
    ⊢ BI.own ((EP (F := F)) (initOf (Pipeline.cells (cfgs (F := F)) cellOf_inj) (Pipeline.launchToks (cfgs (F := F)) cellOf_inj))) := BI.Entails.refl _

/-- The launch element funds the pipelines' cells. -/
theorem fund : (ownU (initOf (Pipeline.cells (cfgs (F := F)) cellOf_inj) (Pipeline.launchToks (cfgs (F := F)) cellOf_inj)) : sProp 𝕄)
    ⊢ iprop(|={Set.univ}=> (BI.own ((EP (F := F)) (initOf (Pipeline.cells (cfgs (F := F)) cellOf_inj) (Pipeline.launchToks (cfgs (F := F)) cellOf_inj)))
      ∗ bigSep Finset.univ (fun _ : Dev nD => (iprop(emp) : sProp 𝕄)))) := by
  iintro Hu
  ihave H := (fund₀ (F := F)) $$ Hu
  imodintro
  isplitl [H]
  · iexact H
  iapply (show (BI.emp : sProp 𝕄) ⊢ bigSep Finset.univ (fun _ : Dev nD => (BI.emp : sProp 𝕄)) from by rw [BI.bigSep_emp_const])
  iempintro

/-- What a device is launched with covers the first region's entry. -/
theorem start (c : Dev nD) :
    (iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ emp) : sProp 𝕄)
      ⊢ iprop(StableHlo.held (c : Thread nD τ) (Pipeline.ucRefs τ sig) (V0 m c) ∗ rest c) := by
  rw [← Pipeline.unscopedBufs_held (Ix := Unit) (Name := ℕ) (U := UR sig nD τ) (Lvl := ℕ) c (V0 m c)]
  iintro ⟨Hb, -, HO, -⟩
  isplitl [Hb]; · iexact Hb
  iexists _; iexact HO

set_option maxHeartbeats 2000000 in
set_option backward.isDefEq.respectTransparency.types false in
/-- The run: from any memory with zero counters, every weakly fair execution terminates, and every final state holds the
    arguments as launched, the results at the last valuation, and every counter at zero. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0_0) = V4 m (outs m) c main_v0_0
      ∧ r.2.mem ((c.tc : Thread nD τ).loc main_v0_1) = V4 m (outs m) c main_v0_1
      ∧ r.2.mem ((c.tc : Thread nD τ).loc main_v0_2) = V4 m (outs m) c main_v0_2)
      ∧ r.2.sem = fun _ => 0) := by
  refine Pipeline.θ_run_regions_kit_dev_sems (pcfgs (F := F)) adm (pdats (V0 m) (W2 m)) () cellOf_inj EP defs₀ 𝒱₀ L lv m ρ main
    (segs m (outs m) 𝒱₀ L lv restE () (pdats (V0 m) (W2 m)) (reg0 (V0 m) (W2 m) (W1 m) (W1_ne m) (o0_eq m)) (reg1 (V0 m) (W2 m) (W3 m) (W3_ne m) (o7_eq m) (o8_eq m)))
    (fun c Q => by
      rewrite [main_chain c, Seg.run_eq_chain,
        show (segs m (outs m) 𝒱₀ L lv restE () (pdats (V0 m) (W2 m)) (reg0 (V0 m) (W2 m) (W1 m) (W1_ne m) (o0_eq m)) (reg1 (V0 m) (W2 m) (W3 m) (W3_ne m) (o7_eq m) (o8_eq m)) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells (cfgs (F := F)) cellOf_inj) (Pipeline.launchToks (cfgs (F := F)) cellOf_inj))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := fun c => ⟨link (V0 m) (onRefs (V0 m)) (fun _ _ => rfl) c, link' (W1 m) (V1 m (outs m)) (V1_eq m) c,
      link (V2 m (outs m)) (onRefs (W2 m)) (fun c b => congrFun (V2_eq m c) b) c, link' (W3 m) (V3 m (outs m)) (V3_eq m) c, sep_mono .rfl .rfl⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v0_0) = V4 m (outs m) c main_v0_0
      ∧ s.mem ((c.tc : Thread nD τ).loc main_v0_1) = V4 m (outs m) c main_v0_1
      ∧ s.mem ((c.tc : Thread nD τ).loc main_v0_2) = V4 m (outs m) c main_v0_2)
    (hfin := fun c s' => ?_) (hQ := fun _ h hz => ⟨h, funext fun g => hz g (.inr (regions_no_unscoped g.2))⟩)
  · exact fund
  · refine (sep_mono (bigSep_mono (fun c _ => start m ρ c)) .rfl).trans ?_
    iintro ⟨H, -⟩
    imodintro
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_v0_0) (Finset.mem_filter.mpr ⟨StableHlo.devRef_mem_tcRefs main_v0_0, by decide⟩)),
        (h (Proc.devRef .tc main_v0_1) (Finset.mem_filter.mpr ⟨StableHlo.devRef_mem_tcRefs main_v0_1, by decide⟩)),
        (h (Proc.devRef .tc main_v0_2) (Finset.mem_filter.mpr ⟨StableHlo.devRef_mem_tcRefs main_v0_2, by decide⟩))⟩
    · iexact HSI

end Cert.Proof.KI

end
-- ==== Proof.RI.Run.lean ====
/-
  The reference's run: its loop's fold read at a reference no stretch writes, and the frame.
-/
module

public import proofs.«01_k».proof.Proof.Gen.ReferenceIdeal.Run

@[expose] public section

set_option maxRecDepth 16384

noncomputable section

namespace Cert.Proof.RI

open Cert.ReferenceIdeal Cert.ReferenceIdeal.Gen Cert.ReferenceIdeal.Value

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- What the stretch writes. -/
abbrev W18 : List (Ref sig .tc) := [main_cst_25]
theorem writes18 : (hostOps0_18 : List (HloOp τ sig (Elt F))).Forall fun op => op.writes ⊆ (W18.map (Proc.devRef (τ := τ) .tc)).toFinset :=
  StableHlo.forall_writes_sub_of_map rfl

/-- What the stretch writes. -/
abbrev W19 : List (Ref sig .tc) := [main_call10_v0, main_call10_v1, main_v178]
theorem writes19 : (hostOps0_19 : List (HloOp τ sig (Elt F))).Forall fun op => op.writes ⊆ (W19.map (Proc.devRef (τ := τ) .tc)).toFinset :=
  StableHlo.forall_writes_sub_of_map rfl

/-- What the stretch writes. -/
abbrev W20 : List (Ref sig .tc) := [main_values_26, main_indices_27]
theorem writes20 : (hostOps0_20 : List (HloOp τ sig (Elt F))).Forall fun op => op.writes ⊆ (W20.map (Proc.devRef (τ := τ) .tc)).toFinset :=
  StableHlo.forall_writes_sub_of_map rfl

/-- What the stretch writes. -/
abbrev W21 : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v179]
theorem writes21 : (hostOps0_21 : List (HloOp τ sig (Elt F))).Forall fun op => op.writes ⊆ (W21.map (Proc.devRef (τ := τ) .tc)).toFinset :=
  StableHlo.forall_writes_sub_of_map rfl

/-- What the stretch writes. -/
abbrev W22 : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_c_4, main_call12_v14, main_v180]
theorem writes22 : (hostOps0_22 : List (HloOp τ sig (Elt F))).Forall fun op => op.writes ⊆ (W22.map (Proc.devRef (τ := τ) .tc)).toFinset :=
  StableHlo.forall_writes_sub_of_map rfl

/-- References the stretches before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W

/-- References the stretches after the loop write. -/
abbrev postW : List (Ref sig .tc) := W18 ++ W19 ++ W20 ++ W21 ++ W22

theorem not_mem_l {α : Type} {a : α} {l l' : List α} (h : a ∉ l ++ l') : a ∉ l := fun h' => h (List.mem_append_left _ h')
theorem not_mem_r {α : Type} {a : α} {l l' : List α} (h : a ∉ l ++ l') : a ∉ l' := fun h' => h (List.mem_append_right _ h')

/-- What the stretches before the loop do not write they leave. -/
theorem pre_of (V : Valuation τ sig (Elt F)) (r : Ref sig .tc) (h : r ∉ preW) : afterL preI V (Proc.devRef .tc r) = V (Proc.devRef .tc r) := by
  have h17 := not_mem_r h
  replace h := not_mem_l h
  have h16 := not_mem_r h
  replace h := not_mem_l h
  have h15 := not_mem_r h
  replace h := not_mem_l h
  have h14 := not_mem_r h
  replace h := not_mem_l h
  have h13 := not_mem_r h
  replace h := not_mem_l h
  have h12 := not_mem_r h
  replace h := not_mem_l h
  have h11 := not_mem_r h
  replace h := not_mem_l h
  have h10 := not_mem_r h
  replace h := not_mem_l h
  have h9 := not_mem_r h
  replace h := not_mem_l h
  have h8 := not_mem_r h
  replace h := not_mem_l h
  have h7 := not_mem_r h
  replace h := not_mem_l h
  have h6 := not_mem_r h
  replace h := not_mem_l h
  have h5 := not_mem_r h
  replace h := not_mem_l h
  have h4 := not_mem_r h
  replace h := not_mem_l h
  have h3 := not_mem_r h
  replace h := not_mem_l h
  have h2 := not_mem_r h
  replace h := not_mem_l h
  have h1 := not_mem_r h
  replace h := not_mem_l h
  simp only [afterL_cons, afterL_nil]
  rw [after_of_writes_sub hostOps0_17 _ hostOps0_17_writes h17]
  rw [after_of_writes_sub hostOps0_16 _ hostOps0_16_writes h16]
  rw [after_of_writes_sub hostOps0_15 _ hostOps0_15_writes h15]
  rw [after_of_writes_sub hostOps0_14 _ hostOps0_14_writes h14]
  rw [after_of_writes_sub hostOps0_13 _ hostOps0_13_writes h13]
  rw [after_of_writes_sub hostOps0_12 _ hostOps0_12_writes h12]
  rw [after_of_writes_sub hostOps0_11 _ hostOps0_11_writes h11]
  rw [after_of_writes_sub hostOps0_10 _ hostOps0_10_writes h10]
  rw [after_of_writes_sub hostOps0_9 _ hostOps0_9_writes h9]
  rw [after_of_writes_sub hostOps0_8 _ hostOps0_8_writes h8]
  rw [after_of_writes_sub hostOps0_7 _ hostOps0_7_writes h7]
  rw [after_of_writes_sub hostOps0_6 _ hostOps0_6_writes h6]
  rw [after_of_writes_sub hostOps0_5 _ hostOps0_5_writes h5]
  rw [after_of_writes_sub hostOps0_4 _ hostOps0_4_writes h4]
  rw [after_of_writes_sub hostOps0_3 _ hostOps0_3_writes h3]
  rw [after_of_writes_sub hostOps0_2 _ hostOps0_2_writes h2]
  rw [after_of_writes_sub hostOps0_1 _ hostOps0_1_writes h1]
  rw [after_of_writes_sub hostOps0 _ hostOps0_writes h]

/-- What the stretches after the loop do not write they leave. -/
theorem post_of (V : Valuation τ sig (Elt F)) (r : Ref sig .tc) (h : r ∉ postW) : afterL postI V (Proc.devRef .tc r) = V (Proc.devRef .tc r) := by
  have h22 := not_mem_r h
  replace h := not_mem_l h
  have h21 := not_mem_r h
  replace h := not_mem_l h
  have h20 := not_mem_r h
  replace h := not_mem_l h
  have h19 := not_mem_r h
  replace h := not_mem_l h
  simp only [afterL_cons, afterL_nil]
  rw [after_of_writes_sub hostOps0_22 _ writes22 h22]
  rw [after_of_writes_sub hostOps0_21 _ writes21 h21]
  rw [after_of_writes_sub hostOps0_20 _ writes20 h20]
  rw [after_of_writes_sub hostOps0_19 _ writes19 h19]
  rw [after_of_writes_sub hostOps0_18 _ writes18 h]

/-- What neither the loop's condition nor its body writes a trip leaves. -/
theorem trip_of (m : (ℓ : Loc nD τ sig) → Buf (Elt F) ℓ) (c : Dev nD) (r : Ref sig .tc) (h : r ∉ condOps_W) (h' : r ∉ while0Ops0_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0 _ while0Ops0_writes h', after_of_writes_sub condOps _ condOps_writes h]
    exact trip_of m c r h h' k

/-- A reference the program does not write ends as launched. -/
theorem final_of (m : (ℓ : Loc nD τ sig) → Buf (Elt F) ℓ) (c : Dev nD) (r : Ref sig .tc) (h : r ∉ preW) (hp : r ∉ postW) (hc : r ∉ condOps_W)
    (hw : r ∉ while0Ops0_W) : finalContents condOps preI bodyI postI 4096 m c (Proc.devRef .tc r) = m ((c.tc : Thread nD τ).loc r) := by
  unfold finalContents
  rw [post_of _ r hp, after_of_writes_sub condOps _ condOps_writes hc]
  exact (trip_of m c r hc hw 4096).trans (pre_of _ r h)

theorem keep_main_arg0 (m : (ℓ : Loc nD τ sig) → Buf (Elt F) ℓ) (c : Dev nD) :
    finalContents condOps preI bodyI postI 4096 m c (Proc.devRef .tc main_arg0) = m ((c.tc : Thread nD τ).loc main_arg0) :=
  final_of m c main_arg0 (by decide +kernel) (by decide +kernel) (by decide +kernel) (by decide +kernel)

theorem keep_main_arg1 (m : (ℓ : Loc nD τ sig) → Buf (Elt F) ℓ) (c : Dev nD) :
    finalContents condOps preI bodyI postI 4096 m c (Proc.devRef .tc main_arg1) = m ((c.tc : Thread nD τ).loc main_arg1) :=
  final_of m c main_arg1 (by decide +kernel) (by decide +kernel) (by decide +kernel) (by decide +kernel)

theorem keep_main_arg2 (m : (ℓ : Loc nD τ sig) → Buf (Elt F) ℓ) (c : Dev nD) :
    finalContents condOps preI bodyI postI 4096 m c (Proc.devRef .tc main_arg2) = m ((c.tc : Thread nD τ).loc main_arg2) :=
  final_of m c main_arg2 (by decide +kernel) (by decide +kernel) (by decide +kernel) (by decide +kernel)

theorem keep_main_arg3 (m : (ℓ : Loc nD τ sig) → Buf (Elt F) ℓ) (c : Dev nD) :
    finalContents condOps preI bodyI postI 4096 m c (Proc.devRef .tc main_arg3) = m ((c.tc : Thread nD τ).loc main_arg3) :=
  final_of m c main_arg3 (by decide +kernel) (by decide +kernel) (by decide +kernel) (by decide +kernel)

/-- The run: every weakly fair execution terminates with the arguments as launched, the results at the fold, and no
    semaphore off zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v179) = finalContents condOps preI bodyI postI 4096 m c (Proc.devRef .tc main_v179)
      ∧ r.2.mem ((c.tc : Thread nD τ).loc main_values_26) = finalContents condOps preI bodyI postI 4096 m c (Proc.devRef .tc main_values_26)
      ∧ r.2.mem ((c.tc : Thread nD τ).loc main_v180) = finalContents condOps preI bodyI postI 4096 m c (Proc.devRef .tc main_v180))
      ∧ r.2.sem = fun _ => 0) := by
  refine (θ_run _ _ _).mono (fun r h => ⟨fun c => ⟨(h c main_arg0 rfl).trans (keep_main_arg0 m c), (h c main_arg1 rfl).trans (keep_main_arg1 m c), (h c main_arg2 rfl).trans (keep_main_arg2 m c), (h c main_arg3 rfl).trans (keep_main_arg3 m c),
    h c main_v179 rfl, h c main_values_26 rfl, h c main_v180 rfl⟩, funext fun g => ?_⟩) (run_fold m ρ)
  exact ((by decide : ∀ _ : SemLoc sig, False) g.2).elim

end Cert.Proof.RI

end
-- ==== Proof.Alg.Arr.lean ====
/-
  The arrays the two kernel regions leave, at coordinates.
-/
module

public import proofs.«01_k».proof.Proof.KI.Run
public import Idealize.ShloMosaic.Lib.Pipeline.ValueKit
public import Idealize.ShloMosaic.Lib.Pointwise

@[expose] public section

set_option maxRecDepth 16384

namespace Cert.Proof.KI

open Cert.KernelIdeal Cert.KernelIdeal.Gen
open Idealize.ShloMosaic Idealize.ShloMosaic.TcCoe Idealize.SL
open Idealize.ShloMosaic.Pipeline (Dat Cfg Window)

noncomputable section

variable {F : FTy → Type} [FloatOps F]
variable (V : (c : Dev nD) → (b : Ref sig .tc) → Buf (Elt F) ((c : Thread nD τ).loc b))

theorem idx0_0 : ∀ t : Fin (cfg0 (F := F)).N, win0_0.index t = ![t.val, 0] :=
  (by decide +kernel : ∀ t : Fin grid0.N, win0_0.index t = ![t.val, 0])

theorem idx0_1 : ∀ t : Fin (cfg0 (F := F)).N, win0_1.index t = ![t.val, 0] :=
  (by decide +kernel : ∀ t : Fin grid0.N, win0_1.index t = ![t.val, 0])

/-- A row of a block of logits is a row of the logits. -/
theorem lblk_at (c : Dev nD) (t : Fin (cfg0 (F := F)).N) (q : Fin 2000) (a : Fin 91) (h : t.val * 2000 + q.val < 20000) :
    lblk V c t (ix2 q a) = (V c main_arg0 : S20000x91.Idx → Elt F .f32) (ix2 ⟨t.val * 2000 + q.val, h⟩ a) := by
  unfold lblk
  have e := idx0_0 (F := F) t
  blk_simp
  congr 1
  funext b
  match b with
  | ⟨0, _⟩ => refine Fin.ext ?_; blk_simp; exact congrArg (fun x => x * 2000 + q.val) (congrFun e 0)
  | ⟨1, _⟩ => refine Fin.ext ?_; blk_simp; exact (congrArg (fun x => x * 91 + a.val) (congrFun e 1)).trans (by show 0 * 91 + a.val = a.val; omega)

theorem covers0 : Window.Covers win0_1 := by decide +kernel

/-- A block of it, at any of its indices. -/
theorem soft_block (c : Dev nD) (G : S20000x90.Idx → Elt F .f32)
    (hG : ∀ (t : Fin (cfg0 (F := F)).N) (q : Fin 2000) (a : Fin 90) (h : t.val * 2000 + q.val < 20000),
      k0_pay1 (lblk V c t) (ix2 q a) = G (ix2 ⟨t.val * 2000 + q.val, h⟩ a)) (t : Fin (cfg0 (F := F)).N) (y : S2000x90.Idx) :
    k0_pay1 (lblk V c t) y = G (((((cfg0 (F := F)).win 1).blk t).view.emb y : S20000x90.Idx)) := by
  have e := idx0_1 (F := F) t
  have hq : (y 0).val < 2000 := (y 0).isLt
  have ht : t.val < 10 := t.isLt
  have hy : y = ix2 (⟨(y 0).val, hq⟩ : Fin 2000) (⟨(y 1).val, (y 1).isLt⟩ : Fin 90) := by
    funext b
    match b with
    | ⟨0, _⟩ => rfl
    | ⟨1, _⟩ => rfl
  refine (congrArg (k0_pay1 (lblk V c t)) hy).trans ((hG t _ _ (by show t.val * 2000 + (y 0).val < 20000; omega)).trans (congrArg G ?_))
  funext b
  match b with
  | ⟨0, _⟩ => refine Fin.ext ?_; blk_simp; exact (congrArg (fun x => x * 2000 + (y 0).val) (congrFun e 0)).symm
  | ⟨1, _⟩ =>
    refine Fin.ext ?_
    blk_simp
    exact ((congrArg (fun x => x * 90 + (y 1).val) (congrFun e 1)).trans (by show 0 * 90 + (y 1).val = (y 1).val; omega)).symm

/-- The first region's result array, from its rows. -/
theorem soft_array (c : Dev nD) (G : S20000x90.Idx → Elt F .f32)
    (hG : ∀ (t : Fin (cfg0 (F := F)).N) (q : Fin 2000) (a : Fin 90) (h : t.val * 2000 + q.val < 20000),
      k0_pay1 (lblk V c t) (ix2 q a) = G (ix2 ⟨t.val * 2000 + q.val, h⟩ a)) :
    (dat0 V c).arrAt 1 (cfg0 (F := F)).N = G := by
  refine (dat0 V c).arrAt_eq_of_covers 1 G covers0 fun t hf y => soft_block V c G hG t y

/-- The second region's one point has the first block of each window. -/
theorem idx1 : ∀ (w : Fin 9) (a : Fin ((cfg1 (F := F)).win w).shape.rank), ((cfg1 (F := F)).win w).index t1_0 a = 0 := by
  intro w
  fin_cases w <;> intro a <;> fin_cases a <;> rfl

theorem emb1 (w : Fin 9) (y : (((cfg1 (F := F)).win w).xblock ((cfg1 (F := F)).grid.coords t1_0)).Idx) (a : Fin ((cfg1 (F := F)).win w).shape.rank) :
    ((((cfg1 (F := F)).win w).rect t1_0).emb y a : ℕ) = y a :=
  Window.rect_emb_val_of_index_zero _ _ _ (idx1 w a) y

/-- The second kernel is given its operand arrays whole. -/
theorem insV_eq (c : Dev nD) : insV V c t1_0
    = ⟨V c main_call0_v30, V c main_call0_v31, V c main_call0_v27, V c main_call0_v6, V c main_call0_v23, V c main_call0_v32, V c main_call0_v29⟩ := by
  unfold insV
  congr 1
  · funext y; exact congrArg (V c main_call0_v30) (funext fun a => Fin.ext (emb1 (F := F) 0 y a))
  · funext y; exact congrArg (V c main_call0_v31) (funext fun a => Fin.ext (emb1 (F := F) 1 y a))
  · funext y; exact congrArg (V c main_call0_v27) (funext fun a => Fin.ext (emb1 (F := F) 2 y a))
  · funext y; exact congrArg (V c main_call0_v6) (funext fun a => Fin.ext (emb1 (F := F) 3 y a))
  · funext y; exact congrArg (V c main_call0_v23) (funext fun a => Fin.ext (emb1 (F := F) 4 y a))
  · funext y; exact congrArg (V c main_call0_v32) (funext fun a => Fin.ext (emb1 (F := F) 5 y a))
  · funext y; exact congrArg (V c main_call0_v29) (funext fun a => Fin.ext (emb1 (F := F) 6 y a))

theorem whole7 : Window.WholeAt win1_7 t1_0 := by decide +kernel

theorem whole8 : Window.WholeAt win1_8 t1_0 := by decide +kernel

/-- The second region's result arrays are what its one point leaves. -/
theorem boxes_array (c : Dev nD) : (dat1 V c).arrAt 7 (cfg1 (F := F)).N = (insV V c t1_0).boxes :=
  (dat1 V c).arrAt_eq_of_after_last 7 t1_0 whole7 _ fun _ => rfl

theorem kept_array (c : Dev nD) : (dat1 V c).arrAt 8 (cfg1 (F := F)).N = (insV V c t1_0).kept :=
  (dat1 V c).arrAt_eq_of_after_last 8 t1_0 whole8 _ fun _ => rfl

end

end Cert.Proof.KI
-- ==== Proof.Alg.Spec.lean ====
/-
  The mathematics both programs compute, entry by entry: a row's softmax, a box decoded from a proposal and clipped to the
  image, the overlap of two boxes, and greedy suppression.
-/
module

public import Idealize.ShloMosaic.PureOps.Ideal.Laws
public import Idealize.ShloMosaic.Lib.Pointwise

@[expose] public section

open Idealize.ShloMosaic

namespace Cert.Proof.Spec

noncomputable section

/-- An entry of a row's softmax. -/
def soft (x : Fin 91 → EReal) (j : Fin 91) : EReal :=
  let top := Finset.fold max (Ideal.ofBits .f32 0xFF800000#32) x Finset.univ
  Ideal.div (Ideal.exp (x j - top)) (∑ i, Ideal.exp (x i - top))

/-- A score kept when it is above the threshold. -/
def mask (p : EReal) : EReal := if Ideal.ofBits .f32 0x3D4CCCCD#32 < p then p else Ideal.ofBits .f32 0xBF800000#32

/-- Half a decoded extent. -/
def half (p0 p2 d2 : EReal) : EReal :=
  Ideal.ofBits .f32 0x3F000000#32 * (Ideal.exp (min (Ideal.div d2 (Ideal.ofBits .f32 0x40A00000#32)) (Ideal.ofBits .f32 0x40845349#32)) * (p2 - p0))

/-- A decoded centre. -/
def centre (p0 p2 d0 : EReal) : EReal :=
  Ideal.div d0 (Ideal.ofBits .f32 0x41200000#32) * (p2 - p0) + (p0 + Ideal.ofBits .f32 0x3F000000#32 * (p2 - p0))

/-- A coordinate clipped to the image. -/
def clip (s v : EReal) : EReal := min s (max 0 v)

/-- A decoded and clipped box. -/
def box (W H : EReal) (p d : Fin 4 → EReal) : Fin 4 → EReal
  | ⟨0, _⟩ => clip W (centre (p 0) (p 2) (d 0) - half (p 0) (p 2) (d 2))
  | ⟨1, _⟩ => clip H (centre (p 1) (p 3) (d 1) - half (p 1) (p 3) (d 3))
  | ⟨2, _⟩ => clip W (centre (p 0) (p 2) (d 0) + half (p 0) (p 2) (d 2))
  | ⟨3, _⟩ => clip H (centre (p 1) (p 3) (d 1) + half (p 1) (p 3) (d 3))

/-- A box moved to its class's own region. -/
def move (l : EReal) (b : Fin 4 → EReal) : Fin 4 → EReal := fun a => b a + l * Ideal.ofBits .f32 0x44484000#32

def area (b : Fin 4 → EReal) : EReal := (b 2 - b 0) * (b 3 - b 1)

/-- The length two segments share. -/
def side (x X y Y : EReal) : EReal := max 0 (min X Y - max x y)

/-- The overlap of two boxes that share a rectangle of sides `u` and `v` and have areas `a` and `b`. -/
def ratio (u v a b : EReal) : EReal := Ideal.div (u * v) (max (a + b - u * v) (Ideal.ofBits .f32 0x3089705F#32))

/-- The overlap of two boxes. -/
def iou (b c : Fin 4 → EReal) : EReal := ratio (side (b 0) (b 2) (c 0) (c 2)) (side (b 1) (b 3) (c 1) (c 3)) (area b) (area c)

/-- Row `i`'s turn of greedy suppression: kept, it removes the later ones that overlap it by more than half. -/
def turn (M : Fin 4096 → Fin 4096 → EReal) (K : Fin 4096 → Prop) (i : Fin 4096) (n : Fin 4096) : Prop :=
  K n ∧ ¬(Ideal.ofBits .f32 0x3F000000#32 < M i n ∧ i < n ∧ K i)

/-- What is kept after the first `k` turns. -/
def keep (M : Fin 4096 → Fin 4096 → EReal) (K : Fin 4096 → Prop) : ℕ → Fin 4096 → Prop
  | 0 => K
  | k + 1 => if h : k < 4096 then turn M (keep M K k) ⟨k, h⟩ else keep M K k

theorem keep_sub (M : Fin 4096 → Fin 4096 → EReal) (K : Fin 4096 → Prop) (n : Fin 4096) : ∀ k, keep M K k n → K n
  | 0 => id
  | k + 1 => fun h => by
    unfold keep at h
    split at h
    · exact keep_sub M K n k h.1
    · exact keep_sub M K n k h

/-- Later turns leave the earlier entries alone. -/
theorem keep_stable (M : Fin 4096 → Fin 4096 → EReal) (K : Fin 4096 → Prop) (n : Fin 4096) (P : ℕ) (hn : n.val < P) :
    ∀ d, keep M K (P + d) n ↔ keep M K P n
  | 0 => Iff.rfl
  | d + 1 => by
    have ih := keep_stable M K n P hn d
    rw [← Nat.add_assoc, keep]
    split
    · rename_i h
      unfold turn
      rw [ih]
      refine ⟨fun x => x.1, fun x => ⟨x, fun y => ?_⟩⟩
      have : P + d < n.val := y.2.1
      omega
    · exact ih

/-- The greatest of a row is at least where the search starts. -/
theorem max_fold {n : ℕ} (b : EReal) (f : Fin n → EReal) : max b (Finset.fold max b f Finset.univ) = Finset.fold max b f Finset.univ := by
  refine max_eq_right ?_
  rw [Finset.le_fold_max]
  exact .inl le_rfl

end

end Cert.Proof.Spec
-- ==== Proof.Alg.KSoft.lean ====
/-
  The first kernel's payload: the masked softmax of the rows it is given.
-/
module

public import proofs.«01_k».proof.Proof.Gen.KernelIdeal.Skeleton
public import proofs.«01_k».proof.Proof.Alg.Spec
public import Idealize.ShloMosaic.Lib.Pointwise

@[expose] public section

set_option maxRecDepth 16384

namespace Cert.Proof.KSoft

open Cert.KernelIdeal Cert.KernelIdeal.Gen
open Idealize.ShloMosaic

noncomputable section

theorem pay (x : FVec Ideal S2000x91 .f32) (q : Fin 2000) (c : Fin 90) :
    k0_pay1 (F := Ideal) x (ix2 q c)
      = Spec.mask (Spec.soft (fun j => x (ix2 q j)) ⟨1 + c.val, by have := c.isLt; omega⟩) := by
  unfold k0_pay1
  pointwise
  rfl

end

end Cert.Proof.KSoft
-- ==== Proof.Alg.Take.lean ====
/-
  Taking entries of an array at a list of positions that are all inside it: the form a take is lowered to (negative
  positions moved up by the extent, a mask of the positions inside the array, a gather, a fill value where the mask is
  off) returns the entries themselves.
-/
module

public import Idealize.ShloMosaic.Lib.Routing.OpsSet
public import Idealize.ShloMosaic.Lib.ReduceAll
public import Idealize.ShloMosaic.Lib.WordCmp
public import Idealize.ShloMosaic.Lib.Pointwise

@[expose] public section

open Idealize.ShloMosaic hiding ix2 ix1 ix3 eq_ix1 eq_ix2 eq_ix3
open Idealize.ShloMosaic.ValueIdx

namespace Cert.Proof.Take

noncomputable section

variable {α : Type}

/-- A vector repeated along a second axis. -/
theorem cols {m C : ℕ} (b) (x : (⟨1, ![m]⟩ : Shape).Idx → α) (p : Fin m) (a : Fin C) :
    broadcastInDim ⟨2, ![m, C]⟩ ![0] b x (ix2 p a) = x (ix1 p) := by
  unfold broadcastInDim
  refine congrArg x (funext fun c => ?_)
  match c with
  | ⟨0, _⟩ =>
    refine Fin.ext ?_
    split
    · rename_i h
      have hm : m = 1 := h
      have := p.isLt
      show 0 = p.val
      omega
    · rfl

/-- A position below the sign bit is not negative. -/
theorem slt_zero (a : ℕ) (h : a < 2 ^ 31) : IntOp.cmpi .slt (BitVec.ofNat 32 a) 0#32 = 0#1 := by
  have e : IntOp.cmpi .slt (BitVec.ofNat 32 a) (BitVec.ofNat 32 0) = _ := WordCmp.cmpi_slt_ofNat (by omega) (by omega)
  rw [show (0#32) = BitVec.ofNat 32 0 from rfl, e]; simp

/-- The positions, moved up where negative: unchanged. -/
theorem moved {m : ℕ} (b0 b0') (N : BitVec 32) (idx : IVec ⟨1, ![m]⟩ 32) (σ : Fin m → ℕ) (hσ : ∀ p, σ p < 2 ^ 31)
    (h : ∀ p, idx (ix1 p) = BitVec.ofNat 32 (σ p)) (p : Fin m) :
    select (cmpi .slt idx (broadcastInDim ⟨1, ![m]⟩ ![] b0 (constantI ⟨0, ![]⟩ 32 0#32)))
      (addi idx (broadcastInDim ⟨1, ![m]⟩ ![] b0' (constantI ⟨0, ![]⟩ 32 N))) idx (ix1 p) = BitVec.ofNat 32 (σ p) := by
  pointwise
  rw [h, slt_zero _ (hσ p)]; rfl

/-- The mask of the positions inside the array is on everywhere. -/
theorem inside {m : ℕ} (col : IVec ⟨2, ![m, 1]⟩ 32) (NM : ℕ) (hNM : NM < 2 ^ 31) (σ : Fin m → ℕ) (hσ : ∀ p, σ p ≤ NM)
    (h : ∀ p, col (ix2 p (0 : Fin 1)) = BitVec.ofNat 32 (σ p)) (b2 b3 b4 hr hu) (j : (⟨1, ![m]⟩ : Shape).Idx) :
    Host.reduce (axes := [1]) IntOp.andi (andi (cmpi .sge col (broadcastInDim ⟨2, ![m, 1]⟩ ![] b2 (constantI ⟨0, ![]⟩ 32 0#32)))
        (cmpi .sle col (broadcastInDim ⟨2, ![m, 1]⟩ ![0, 1] b4 (broadcastInDim ⟨2, ![1, 1]⟩ ![1] b3
          (constantI ⟨1, ![1]⟩ 32 (BitVec.ofNat 32 NM))))))
      (constantI ⟨0, ![]⟩ 1 1#1) hr hu j = 1#1 := by
  refine Host.reduce_andi_one _ _ _ _ j rfl fun i => ?_
  obtain ⟨p, q, rfl⟩ : ∃ p q, i = ix2 p q := ⟨_, _, eq_ix2 i⟩
  obtain rfl : q = (0 : Fin 1) := Subsingleton.elim _ _
  pointwise
  rw [h]
  have e1 : IntOp.cmpi .sge (BitVec.ofNat 32 (σ p)) (BitVec.ofNat 32 0) = _ :=
    WordCmp.cmpi_sge_ofNat (by have := hσ p; omega) (by omega)
  have e2 : IntOp.cmpi .sle (BitVec.ofNat 32 (σ p)) (BitVec.ofNat 32 NM) = _ :=
    WordCmp.cmpi_sle_ofNat (by have := hσ p; omega) (by omega)
  rw [show (0#32) = BitVec.ofNat 32 0 from rfl, e1, e2]
  simp [hσ p, IntOp.andi]

/-- Entries of a vector. -/
theorem takeV {N m : ℕ} (hN : N < 2 ^ 31) (d : GatherDims ⟨1, ![N]⟩ ⟨2, ![m, 1]⟩ ⟨1, ![m]⟩) (hcoll : d.collapsedSliceDims = [0])
    (hob : d.operandBatchingDims = []) (hsim : d.startIndexMap = [0]) (hivd : d.indexVectorDim = 1)
    (x : (⟨1, ![N]⟩ : Shape).Idx → α) (fill : (⟨1, ![m]⟩ : Shape).Idx → α) (idx : IVec ⟨1, ![m]⟩ 32) (σ : Fin m → Fin N)
    (h : ∀ p, idx (ix1 p) = BitVec.ofNat 32 (σ p).val) (NN : BitVec 32) (NM : ℕ) (hNM : NM + 1 = N) (b0 b0' b1 b2 b3 b4 hr hu) (p : Fin m) :
    let nrm := select (cmpi .slt idx (broadcastInDim ⟨1, ![m]⟩ ![] b0 (constantI ⟨0, ![]⟩ 32 0#32)))
      (addi idx (broadcastInDim ⟨1, ![m]⟩ ![] b0' (constantI ⟨0, ![]⟩ 32 NN))) idx
    let col := broadcastInDim ⟨2, ![m, 1]⟩ ![0] b1 nrm
    select (Host.reduce (axes := [1]) IntOp.andi (andi (cmpi .sge col (broadcastInDim ⟨2, ![m, 1]⟩ ![] b2 (constantI ⟨0, ![]⟩ 32 0#32)))
        (cmpi .sle col (broadcastInDim ⟨2, ![m, 1]⟩ ![0, 1] b4 (broadcastInDim ⟨2, ![1, 1]⟩ ![1] b3
          (constantI ⟨1, ![1]⟩ 32 (BitVec.ofNat 32 NM))))))
      (constantI ⟨0, ![]⟩ 1 1#1) hr hu) (Host.gather d x col) fill (ix1 p) = x (ix1 (σ p)) := by
  intro nrm col
  have hs : ∀ p, (σ p).val < 2 ^ 31 := fun p => lt_trans (σ p).isLt hN
  have hcol : ∀ p, col (ix2 p (0 : Fin 1)) = BitVec.ofNat 32 (σ p).val := fun p => by
    have e : col (ix2 p (0 : Fin 1)) = nrm (ix1 p) := cols _ _ _ _
    rw [e]; exact moved b0 b0' NN idx (fun p => (σ p).val) hs h p
  rw [select_apply, inside col NM (by omega) (fun p => (σ p).val) (fun p => by have := (σ p).isLt; omega) hcol, select_one]
  exact Routing.gather_take1 d hcoll hob hsim hivd x col p (σ p) (hcol p) hN

/-- Rows of a matrix. -/
theorem takeR {N C m : ℕ} (hN : N < 2 ^ 31) (d : GatherDims ⟨2, ![N, C]⟩ ⟨2, ![m, 1]⟩ ⟨2, ![m, C]⟩) (hoff : d.offsetDims = [1])
    (hcoll : d.collapsedSliceDims = [0]) (hob : d.operandBatchingDims = []) (hsim : d.startIndexMap = [0]) (hivd : d.indexVectorDim = 1)
    (x : (⟨2, ![N, C]⟩ : Shape).Idx → α) (fill : (⟨2, ![m, C]⟩ : Shape).Idx → α) (idx : IVec ⟨1, ![m]⟩ 32) (σ : Fin m → Fin N)
    (h : ∀ p, idx (ix1 p) = BitVec.ofNat 32 (σ p).val) (NN : BitVec 32) (NM : ℕ) (hNM : NM + 1 = N) (b0 b0' b1 b2 b3 b4 b5 hr hu) (p : Fin m) (a : Fin C) :
    let nrm := select (cmpi .slt idx (broadcastInDim ⟨1, ![m]⟩ ![] b0 (constantI ⟨0, ![]⟩ 32 0#32)))
      (addi idx (broadcastInDim ⟨1, ![m]⟩ ![] b0' (constantI ⟨0, ![]⟩ 32 NN))) idx
    let col := broadcastInDim ⟨2, ![m, 1]⟩ ![0] b1 nrm
    select (broadcastInDim ⟨2, ![m, C]⟩ ![0] b5 (Host.reduce (t := ⟨1, ![m]⟩) (axes := [1]) IntOp.andi (andi (cmpi .sge col (broadcastInDim ⟨2, ![m, 1]⟩ ![] b2 (constantI ⟨0, ![]⟩ 32 0#32)))
        (cmpi .sle col (broadcastInDim ⟨2, ![m, 1]⟩ ![0, 1] b4 (broadcastInDim ⟨2, ![1, 1]⟩ ![1] b3
          (constantI ⟨1, ![1]⟩ 32 (BitVec.ofNat 32 NM))))))
      (constantI ⟨0, ![]⟩ 1 1#1) hr hu)) (Host.gather d x col) fill (ix2 p a) = x (ix2 (σ p) a) := by
  intro nrm col
  have hs : ∀ p, (σ p).val < 2 ^ 31 := fun p => lt_trans (σ p).isLt hN
  have hcol : ∀ p, col (ix2 p (0 : Fin 1)) = BitVec.ofNat 32 (σ p).val := fun p => by
    have e : col (ix2 p (0 : Fin 1)) = nrm (ix1 p) := cols _ _ _ _
    rw [e]; exact moved b0 b0' NN idx (fun p => (σ p).val) hs h p
  have hin := fun j => inside col NM (by omega) (fun p => (σ p).val) (fun p => by have := (σ p).isLt; omega) hcol b2 b3 b4 hr hu j
  rw [select_apply]
  rw [cols, hin, select_one]
  exact Routing.gather_row d hoff hcoll hob hsim hivd x col p a (σ p) (hcol p) hN

/-- Rows of a stack of matrices, at two positions each. -/
theorem take2 {N M C m : ℕ} (hN : N < 2 ^ 31) (hM : M < 2 ^ 31)
    (wf : GatherDims.WF ⟨3, ![N, M, C]⟩ ⟨2, ![m, 2]⟩ ⟨2, ![m, C]⟩ [1] [0, 1] [] [0, 1] [] 1 ![1, 1, C])
    (x : (⟨3, ![N, M, C]⟩ : Shape).Idx → α) (idx : IVec ⟨2, ![m, 2]⟩ 32) (p : Fin m) (a : Fin C) (s : Fin N) (t : Fin M)
    (h0 : idx (ix2 p (0 : Fin 2)) = BitVec.ofNat 32 s.val) (h1 : idx (ix2 p (1 : Fin 2)) = BitVec.ofNat 32 t.val) :
    Host.gather ⟨[1], [0, 1], [], [], [0, 1], 1, ![1, 1, C], wf⟩ x idx (ix2 p a) = x (ix3 s t a) := by
  set d : GatherDims ⟨3, ![N, M, C]⟩ ⟨2, ![m, 2]⟩ ⟨2, ![m, C]⟩ := ⟨[1], [0, 1], [], [], [0, 1], 1, ![1, 1, C], wf⟩ with hd
  unfold Host.gather
  refine congrArg x (funext fun b => Fin.ext ?_)
  have nb : ∀ b', b' ∉ d.operandBatchingDims := fun b' => List.not_mem_nil
  have hsl := s.isLt
  have htl := t.isLt
  match b with
  | ⟨0, _⟩ =>
    show d.start (ix2 p a) idx 0 + d.batchCoord (ix2 p a) 0 + d.offCoord (ix2 p a) 0 = s.val
    have hm : (0 : Fin 3) ∈ d.startIndexMap := by simp [hd]
    rw [d.batchCoord_eq_zero _ _ (nb 0), d.offCoord_eq_zero _ _ fun h => ((d.mem_sKept 0).1 h).1 (by simp [hd])]
    unfold GatherDims.start
    rw [dif_pos hm]
    have e : d.siIdx (ix2 p a) ⟨d.startIndexMap.idxOf 0, List.idxOf_lt_length_iff.2 hm⟩ = ix2 p (0 : Fin 2) := by
      funext c; refine Fin.ext ?_
      match c with
      | ⟨0, _⟩ => rfl
      | ⟨1, _⟩ => rfl
    rw [e, h0, WordCmp.toInt_ofNat_of_lt (by omega)]
    show min ((s.val : ℤ)).toNat (N - 1) + 0 + 0 = s.val
    omega
  | ⟨1, _⟩ =>
    show d.start (ix2 p a) idx 1 + d.batchCoord (ix2 p a) 1 + d.offCoord (ix2 p a) 1 = t.val
    have hm : (1 : Fin 3) ∈ d.startIndexMap := by simp [hd]
    rw [d.batchCoord_eq_zero _ _ (nb 1), d.offCoord_eq_zero _ _ fun h => ((d.mem_sKept 1).1 h).1 (by simp [hd])]
    unfold GatherDims.start
    rw [dif_pos hm]
    have e : d.siIdx (ix2 p a) ⟨d.startIndexMap.idxOf 1, List.idxOf_lt_length_iff.2 hm⟩ = ix2 p (1 : Fin 2) := by
      funext c; refine Fin.ext ?_
      match c with
      | ⟨0, _⟩ => rfl
      | ⟨1, _⟩ => rfl
    rw [e, h1, WordCmp.toInt_ofNat_of_lt (by omega)]
    show min ((t.val : ℤ)).toNat (M - 1) + 0 + 0 = t.val
    omega
  | ⟨2, _⟩ =>
    show d.start (ix2 p a) idx 2 + d.batchCoord (ix2 p a) 2 + d.offCoord (ix2 p a) 2 = a.val
    rw [d.batchCoord_eq_zero _ _ (nb 2)]
    unfold GatherDims.start
    rw [dif_neg (show (2 : Fin 3) ∉ d.startIndexMap by simp [hd])]
    unfold GatherDims.offCoord
    rw [dif_pos ((d.mem_sKept 2).2 ⟨by simp [hd], nb 2⟩)]
    show 0 + 0 + a.val = a.val
    omega

end

end Cert.Proof.Take
-- ==== Proof.Alg.TopK.lean ====
/-
  The greatest entries of a list, in order, by a stable sort: which position each comes from, that they descend, and that
  the first few depend only on a prefix of the list when enough of that prefix is kept.
-/
module

public import Idealize.ShloMosaic.Lib.SortPrefix
public import Idealize.ShloMosaic.PureOps.Ideal.Laws
public import Mathlib.Data.Finset.Sort

@[expose] public section

open Idealize.ShloMosaic

namespace Cert.Proof.TopK

noncomputable section

/-- "Greater": the order the list is sorted by. -/
def gtB {n : ℕ} (x : Fin n → EReal) : Fin n → Fin n → Bool := fun a b => decide (x b < x a)

/-- "Greater, or equal and earlier": the strict order a stable sort follows. -/
def gtP {n : ℕ} (x : Fin n → EReal) : Fin n → Fin n → Bool :=
  fun a b => decide (x b < x a) || (decide (x a = x b) && decide (a < b))

theorem gtP_strict {n : ℕ} (x : Fin n → EReal) : StrictTotalBefore (gtP x) :=
  StrictTotalBefore.of_key_then_position (fun a b : EReal => decide (b < a)) x (fun a => by simp)
    (fun a b c h h' => by simp only [decide_eq_true_eq] at *; exact lt_trans h' h)
    (fun a b => by
      simp only [decide_eq_true_eq]
      rcases lt_trichotomy a b with h | h | h
      · exact .inr (.inr h)
      · exact .inr (.inl h)
      · exact .inl h)

/-- An insertion sort of an increasing list asks its order only of a later against an earlier element. -/
theorem stableSort_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_gt {n : ℕ} (x : Fin n → EReal) : sortedFrom (gtB x) = sortedFrom (gtP x) := by
  have e : sortPositions n (gtB x) = sortPositions n (gtP x) :=
    stableSort_later _ _ _ (List.pairwise_lt_finRange n) fun a b hab => by
      unfold gtB gtP
      have : ¬ b < a := not_lt.mpr hab.le
      simp [this]
  funext k
  unfold sortedFrom
  rw [List.get_of_eq e]
  rfl

/-- The position the `k`-th greatest entry comes from. -/
def src {n : ℕ} (x : Fin n → EReal) : Fin n → Fin n := sortedFrom (gtP x)

theorem src_injective {n : ℕ} (x : Fin n → EReal) : Function.Injective (src x) := sortedFrom_injective _

/-- The sorted entries descend. -/
theorem src_desc {n : ℕ} (x : Fin n → EReal) (a b : Fin n) (h : a ≤ b) : x (src x b) ≤ x (src x a) := by
  rcases eq_or_lt_of_le h with rfl | h
  · exact le_rfl
  · have hs := gtP_strict x
    have := sortedFrom_noInversion (gtP x) (gtP x) (fun a b h => hs.asymm a b h) (fun _ _ h => h) hs.negTrans a b h
    unfold gtP at this
    simp only [Bool.or_eq_false_iff, decide_eq_false_iff_not] at this
    exact not_lt.mp this.1

/-- The greatest entries' values and positions, read at one place. -/
theorem topK_at {n m : ℕ} (hm : m ≤ n) (x : (⟨1, ![n]⟩ : Shape).Idx → EReal) (h : (⟨1, ![n]⟩ : Shape).Slices (fun _ => 0) ⟨1, ![m]⟩) (r : Fin m) :
    (Host.topK ⟨1, ![m]⟩ 0 (FloatOps.cmpfTotal (F := Ideal) (φ := .f32) .gt) x h).1 (.ofFin r)
        = x (.ofFin (src (fun k => x (.ofFin k)) (r.castLE hm)))
      ∧ (Host.topK ⟨1, ![m]⟩ 0 (FloatOps.cmpfTotal (F := Ideal) (φ := .f32) .gt) x h).2 (.ofFin r)
        = BitVec.ofNat 32 (src (fun k => x (.ofFin k)) (r.castLE hm)).val := by
  have hB : ∀ y : (⟨1, ![n]⟩ : Shape).Idx → BitVec 32,
      (fun k k' : Fin n => (fun l r : EReal × BitVec 32 => FloatOps.cmpfTotal (F := Ideal) (φ := .f32) .gt l.1 r.1)
        (x (.ofFin k), y (.ofFin k)) (x (.ofFin k'), y (.ofFin k')) == 1#1) = gtB (fun k => x (.ofFin k)) := by
    intro y
    funext k k'
    show (Ideal.cmp CmpDirection.gt.ordered _ _ == 1#1) = _
    unfold gtB Ideal.cmp
    by_cases hlt : x (.ofFin k') < x (.ofFin k) <;> simp [CmpDirection.ordered, hlt]
  have hs := congrFun (sortedFrom_gt (fun k => x (.ofFin k))) (r.castLE hm)
  have hj : ∀ j : (⟨1, ![n]⟩ : Shape).Idx, j 0 = r.castLE hm →
      (Host.sort2 ⟨1, ![n]⟩ 0 (fun l r : EReal × BitVec 32 => FloatOps.cmpfTotal (F := Ideal) (φ := .f32) .gt l.1 r.1) x
          (fun i => if hd : 0 < (⟨1, ![n]⟩ : Shape).rank then iotaInDim ⟨1, ![n]⟩ 32 ⟨0, hd⟩ i else 0#32)).1 j
        = x (.ofFin (src (fun k => x (.ofFin k)) (r.castLE hm)))
      ∧ (Host.sort2 ⟨1, ![n]⟩ 0 (fun l r : EReal × BitVec 32 => FloatOps.cmpfTotal (F := Ideal) (φ := .f32) .gt l.1 r.1) x
          (fun i => if hd : 0 < (⟨1, ![n]⟩ : Shape).rank then iotaInDim ⟨1, ![n]⟩ 32 ⟨0, hd⟩ i else 0#32)).2 j
        = BitVec.ofNat 32 (src (fun k => x (.ofFin k)) (r.castLE hm)).val := by
    intro j hj
    have hd : 0 < (⟨1, ![n]⟩ : Shape).rank := Nat.one_pos
    unfold Host.sort2
    rw [dif_pos hd]
    have al : ∀ k : Fin n, j.along (⟨0, hd⟩ : Fin (⟨1, ![n]⟩ : Shape).rank) k = .ofFin k := fun k => Shape.Idx.along_rank1 j k
    have key : ∀ y : (⟨1, ![n]⟩ : Shape).Idx → BitVec 32,
        sortedFrom (n := n) (fun k k' : Fin n => (fun l r : EReal × BitVec 32 => FloatOps.cmpfTotal (F := Ideal) (φ := .f32) .gt l.1 r.1)
          (x (j.along ⟨0, hd⟩ k), y (j.along ⟨0, hd⟩ k)) (x (j.along ⟨0, hd⟩ k'), y (j.along ⟨0, hd⟩ k')) == 1#1) (j 0)
          = src (fun k => x (.ofFin k)) (r.castLE hm) := by
      intro y
      have e := hB y
      simp only [al]
      rw [e, hj]
      exact hs
    constructor
    · exact (congrArg (fun c : Fin n => x (j.along ⟨0, hd⟩ c))
        (key (fun i => if hd : 0 < (⟨1, ![n]⟩ : Shape).rank then iotaInDim ⟨1, ![n]⟩ 32 ⟨0, hd⟩ i else 0#32))).trans (congrArg x (al _))
    · refine (congrArg (fun c : Fin n => (fun i => if hd : 0 < (⟨1, ![n]⟩ : Shape).rank then iotaInDim ⟨1, ![n]⟩ 32 ⟨0, hd⟩ i else 0#32)
        (j.along ⟨0, hd⟩ c))
          (key (fun i => if hd : 0 < (⟨1, ![n]⟩ : Shape).rank then iotaInDim ⟨1, ![n]⟩ 32 ⟨0, hd⟩ i else 0#32))).trans ?_
      rw [al]
      rfl
  unfold Host.topK
  constructor
  · exact (hj _ (Fin.ext (by simp [Shape.Idx.ofFin]))).1
  · exact (hj _ (Fin.ext (by simp [Shape.Idx.ofFin]))).2

/-- THE FIRST FEW DEPEND ON A PREFIX: let the values descend, and let an entry be its value if kept and `low` if not, `low` below
    every kept value. If two ways of keeping agree below `P` and keep `m` there, the first `m` of the two sorted lists come
    from the same positions, all kept. -/
theorem src_prefix {n m : ℕ} (hm : m ≤ n) (v : Fin n → EReal) (hv : ∀ p q, p ≤ q → v q ≤ v p) (low : EReal) (K K' : Fin n → Prop)
    [DecidablePred K] [DecidablePred K'] (P : ℕ) (hKK : ∀ p : Fin n, p.val < P → (K p ↔ K' p)) (hl : ∀ p, K p → low < v p)
    (hl' : ∀ p, K' p → low < v p) (hc : m ≤ (Finset.univ.filter fun p : Fin n => p.val < P ∧ K p).card) (r : Fin m) :
    src (fun p => if K p then v p else low) (r.castLE hm) = src (fun p => if K' p then v p else low) (r.castLE hm)
      ∧ K (src (fun p => if K p then v p else low) (r.castLE hm)) ∧ K' (src (fun p => if K p then v p else low) (r.castLE hm)) := by
  classical
  set S := Finset.univ.filter fun p : Fin n => p.val < P ∧ K p with hS
  let σ : Fin m → Fin n := fun r => S.orderEmbOfFin rfl (r.castLE hc)
  have hmem : ∀ i, (σ i).val < P ∧ K (σ i) := fun i => by
    have := S.orderEmbOfFin_mem rfl (i.castLE hc)
    exact (Finset.mem_filter.mp (show _ ∈ Finset.univ.filter _ from this)).2
  have hmono : ∀ i j, i < j → σ i < σ j := fun i j h => (S.orderEmbOfFin rfl).strictMono h
  have main : ∀ (Q : Fin n → Prop) [DecidablePred Q], (∀ p : Fin n, p.val < P → (K p ↔ Q p)) → (∀ p, Q p → low < v p) →
      src (fun p => if Q p then v p else low) (r.castLE hm) = σ r := by
    intro Q _ hQ hlQ
    have hq : ∀ i, Q (σ i) := fun i => (hQ _ (hmem i).1).mp (hmem i).2
    refine (gtP_strict _).sortedFrom_eq_of_prefix hm σ ?_ ?_ ?_ r
    · intro i j h
      rcases lt_trichotomy i j with hij | hij | hij
      · exact absurd h (hmono _ _ hij).ne
      · exact hij
      · exact absurd h (hmono _ _ hij).ne'
    · intro i j hij
      unfold gtP
      have h1 : ¬ v (σ i) < v (σ j) := not_lt.mpr (hv _ _ (hmono _ _ hij).le)
      have h2 : ¬ σ j < σ i := not_lt.mpr (hmono _ _ hij).le
      simp [hq, h1, h2]
    · intro i p hp
      unfold gtP
      by_cases hQp : Q p
      · have hlt : σ i < p := by
          by_contra hcon
          have hle : p ≤ σ i := not_lt.mp hcon
          have hpS : p ∈ S := by
            rw [hS, Finset.mem_filter]
            have : p.val < P := lt_of_le_of_lt hle (hmem i).1
            exact ⟨Finset.mem_univ _, this, (hQ p this).mpr hQp⟩
          have : p ∈ Set.range (S.orderEmbOfFin rfl) := by rw [Finset.range_orderEmbOfFin]; exact hpS
          obtain ⟨t, rfl⟩ := this
          have hti : t ≤ i.castLE hc := (S.orderEmbOfFin rfl).le_iff_le.mp hle
          have htm : t.val < m := lt_of_le_of_lt (show t.val ≤ i.val from hti) i.isLt
          exact hp ⟨t.val, htm⟩ rfl
        have h1 : ¬ v (σ i) < v p := not_lt.mpr (hv _ _ hlt.le)
        have h2 : ¬ p < σ i := not_lt.mpr hlt.le
        simp [hq, hQp, h1, h2]
      · have h1 : low < v (σ i) := hlQ _ (hq i)
        simp [hq, hQp, h1.not_gt, h1.ne]
  rw [main K (fun _ _ => Iff.rfl) hl, main K' hKK hl']
  exact ⟨rfl, (hmem r).2, (hKK _ (hmem r).1).mp (hmem r).2⟩

end

end Cert.Proof.TopK
-- ==== Proof.Alg.KHost.lean ====
/-
  The kernel program's host operations, read at their indices: from the positions of the 4096 greatest scores, the rows,
  classes, proposals and regressions its second call is given; from that call's results, the program's results.
-/
module

public import proofs.«01_k».proof.Proof.Gen.KernelIdeal.Launch
public import proofs.«01_k».proof.Proof.Alg.Take
public import proofs.«01_k».proof.Proof.Alg.TopK
public import Idealize.ShloMosaic.Lib.StableHlo.ReadAt
public import Idealize.ShloMosaic.Lib.Pointwise
public import Idealize.ShloMosaic.Lib.Routing.Words

@[expose] public section

set_option maxRecDepth 16384

namespace Cert.Proof.KHost

open Cert.KernelIdeal Cert.KernelIdeal.Gen
open Idealize.ShloMosaic

noncomputable section

abbrev Vals := Valuation τ sig (Elt Ideal)

/-- The words of a position's row. -/
theorem row_word (a : ℕ) (h : a < 1800000) :
    Scalar.select (IntOp.andi (IntOp.cmpi .ne (if BitVec.ofNat 32 a = 0 then 0 else if (BitVec.ofNat 32 a).msb then -1 else 1) 1#32)
        (IntOp.cmpi .ne (IntOp.remsi .host (BitVec.ofNat 32 a) 90#32) 0#32))
      (IntOp.subi (IntOp.divsi .host (BitVec.ofNat 32 a) 90#32) 1#32) (IntOp.divsi .host (BitVec.ofNat 32 a) 90#32) = BitVec.ofNat 32 (a / 90) := by
  rw [show (90#32) = BitVec.ofNat 32 90 from rfl, Routing.remsi_word .host (by omega) (by omega) (by omega),
    Routing.divsi_word .host (by omega) (by omega) (by omega)]
  by_cases ha : a = 0
  · subst ha; rfl
  · rw [if_neg (Routing.ofNat32_ne_zero (by omega) (by omega)), Routing.msb_ofNat32 (by omega)]
    simp [IntOp.cmpi, IntOp.andi]
    rfl

/-- The words of a position's column. -/
theorem col_word (a : ℕ) (h : a < 1800000) :
    let d := Scalar.select (IntOp.cmpi .eq 90#32 0#32) 1#32 90#32
    Scalar.select (IntOp.andi (IntOp.cmpi .ne (IntOp.cmpi .slt (IntOp.remsi .host (BitVec.ofNat 32 a) d) 0#32) (IntOp.cmpi .slt d 0#32))
        (IntOp.cmpi .ne (IntOp.remsi .host (BitVec.ofNat 32 a) d) 0#32))
      (IntOp.addi (IntOp.remsi .host (BitVec.ofNat 32 a) d) d) (IntOp.remsi .host (BitVec.ofNat 32 a) d) = BitVec.ofNat 32 (a % 90) := by
  intro d
  have hd : d = BitVec.ofNat 32 90 := rfl
  rw [hd, Routing.remsi_word .host (by omega) (by omega) (by omega), Take.slt_zero _ (by omega), Take.slt_zero _ (by omega)]
  simp [IntOp.cmpi, IntOp.andi]
  rfl

section Rows
variable (V : Vals) (σ : Fin 4096 → Fin 1800000)

/-- The row of each position. -/
theorem row (h : ∀ k, (V (Proc.devRef .tc main_call0_indices) : IVec S4096 32) (ix1 k) = BitVec.ofNat 32 (σ k).val) (k : Fin 4096) :
    (StableHlo.after (((hostOps1 (F := Ideal)).drop 3).take 86) V (Proc.devRef .tc main_call0_v2) : IVec S4096 32) (ix1 k) = BitVec.ofNat 32 ((σ k).val / 90) := by
  after_reads_simp
  simp -implicitDefEqProofs only [StableHlo.TRef.toBuf, StableHlo.TRef.ofBuf, cast_cast, cast_eq]
  pointwise
  rw [h]
  exact row_word _ (σ k).isLt

/-- The column of each position. -/
theorem rem (h : ∀ k, (V (Proc.devRef .tc main_call0_indices) : IVec S4096 32) (ix1 k) = BitVec.ofNat 32 (σ k).val) (k : Fin 4096) :
    (StableHlo.after (((hostOps1 (F := Ideal)).drop 3).take 86) V (Proc.devRef .tc main_call0_v3) : IVec S4096 32) (ix1 k) = BitVec.ofNat 32 ((σ k).val % 90) := by
  after_reads_simp
  simp -implicitDefEqProofs only [StableHlo.TRef.toBuf, StableHlo.TRef.ofBuf, cast_cast, cast_eq]
  pointwise
  rw [h]
  exact col_word _ (σ k).isLt

/-- The class of each position. -/
theorem label (h : ∀ k, (V (Proc.devRef .tc main_call0_indices) : IVec S4096 32) (ix1 k) = BitVec.ofNat 32 (σ k).val) (k : Fin 4096) :
    (StableHlo.after (((hostOps1 (F := Ideal)).drop 3).take 86) V (Proc.devRef .tc main_call0_v5) : IVec S4096 32) (ix1 k) = BitVec.ofNat 32 ((σ k).val % 90 + 1) := by
  have e := rem V σ h k
  revert e
  after_reads_simp
  simp -implicitDefEqProofs only [StableHlo.TRef.toBuf, StableHlo.TRef.ofBuf, cast_cast, cast_eq]
  intro e
  pointwise
  pointwise at e
  rw [e]
  exact (BitVec.ofNat_add _ _).symm

/-- The row of each position, as a column. -/
theorem rowCol (h : ∀ k, (V (Proc.devRef .tc main_call0_indices) : IVec S4096 32) (ix1 k) = BitVec.ofNat 32 (σ k).val) (k : Fin 4096) (a : Fin 1) :
    (StableHlo.after (((hostOps1 (F := Ideal)).drop 3).take 86) V (Proc.devRef .tc main_call0_v20) : IVec S4096x1 32) (ix2 k a) = BitVec.ofNat 32 ((σ k).val / 90) := by
  have e := row V σ h k
  revert e
  after_reads_simp
  simp -implicitDefEqProofs only [StableHlo.TRef.toBuf, StableHlo.TRef.ofBuf, cast_cast, cast_eq]
  intro e
  pointwise
  pointwise at e
  rw [e]
  rw [Take.slt_zero _ (by have := (σ k).isLt; omega)]; rfl

/-- The class of each position, as a column. -/
theorem labelCol (h : ∀ k, (V (Proc.devRef .tc main_call0_indices) : IVec S4096 32) (ix1 k) = BitVec.ofNat 32 (σ k).val) (k : Fin 4096) (a : Fin 1) :
    (StableHlo.after (((hostOps1 (F := Ideal)).drop 3).take 86) V (Proc.devRef .tc main_call0_v21) : IVec S4096x1 32) (ix2 k a) = BitVec.ofNat 32 ((σ k).val % 90 + 1) := by
  have e := rem V σ h k
  revert e
  after_reads_simp
  simp -implicitDefEqProofs only [StableHlo.TRef.toBuf, StableHlo.TRef.ofBuf, cast_cast, cast_eq]
  intro e
  pointwise
  pointwise at e
  rw [e, show IntOp.addi (BitVec.ofNat 32 ((σ k).val % 90)) 1#32 = BitVec.ofNat 32 ((σ k).val % 90 + 1) from (BitVec.ofNat_add _ _).symm]
  rw [Take.slt_zero _ (by omega)]; rfl

/-- The proposal of each position. -/
theorem proposal (h : ∀ k, (V (Proc.devRef .tc main_call0_indices) : IVec S4096 32) (ix1 k) = BitVec.ofNat 32 (σ k).val) (k : Fin 4096) (a : Fin 4) :
    (StableHlo.after (((hostOps1 (F := Ideal)).drop 3).take 86) V (Proc.devRef .tc main_call0_v6) : FVec Ideal S4096x4 .f32) (ix2 k a)
      = (V (Proc.devRef .tc main_arg2) : FVec Ideal S20000x4 .f32) (ix2 ⟨(σ k).val / 90, by have := (σ k).isLt; omega⟩ a) := by
  have e := row V σ h
  revert e
  after_reads_simp
  simp -implicitDefEqProofs only [StableHlo.TRef.toBuf, StableHlo.TRef.ofBuf, cast_cast, cast_eq]
  intro e
  exact Take.takeR (by omega) _ rfl rfl rfl rfl rfl _ _ _ (fun k => ⟨(σ k).val / 90, by have := (σ k).isLt; omega⟩) e _ 19999 rfl
    _ _ _ _ _ _ _ _ _ k a

/-- The regressions, as rows of classes of four. -/
theorem regs : (StableHlo.after (((hostOps1 (F := Ideal)).drop 3).take 86) V (Proc.devRef .tc main_call0_v7) : FVec Ideal S20000x91x4 .f32) = fun i => shapeCast S20000x91x4 (V (Proc.devRef .tc main_arg1) : FVec Ideal S20000x364 .f32) shapeCasts_S20000x364_S20000x91x4 i := by
  after_reads_simp
  rfl

theorem mid_arg3 : StableHlo.after (((hostOps1 (F := Ideal)).drop 3).take 86) V (Proc.devRef .tc main_arg3) = V (Proc.devRef .tc main_arg3) := by
  after_reads_simp

theorem mid_values : StableHlo.after (((hostOps1 (F := Ideal)).drop 3).take 86) V (Proc.devRef .tc main_call0_values) = V (Proc.devRef .tc main_call0_values) := by
  after_reads_simp

end Rows

section Third
variable (V : Vals)

/-- The regression of each position. -/
theorem regression (k : Fin 4096) (a : Fin 4) (s : Fin 20000) (t : Fin 91)
    (h0 : (V (Proc.devRef .tc main_call0_v20) : IVec S4096x1 32) (ix2 k (0 : Fin 1)) = BitVec.ofNat 32 s.val)
    (h1 : (V (Proc.devRef .tc main_call0_v21) : IVec S4096x1 32) (ix2 k (0 : Fin 1)) = BitVec.ofNat 32 t.val) :
    (StableHlo.after (((hostOps1 (F := Ideal)).drop 89).take 5) V (Proc.devRef .tc main_call0_v23) : FVec Ideal S4096x4 .f32) (ix2 k a)
      = (V (Proc.devRef .tc main_call0_v7) : FVec Ideal S20000x91x4 .f32) (ix3 s t a) := by
  after_reads_simp
  simp -implicitDefEqProofs only [StableHlo.TRef.toBuf, StableHlo.TRef.ofBuf, cast_cast, cast_eq]
  refine Take.take2 (by omega) (by omega) _ _ _ k a s t ?_ ?_
  · pointwise
    exact h0
  · pointwise
    exact h1

theorem labelF (k : Fin 4096) : (StableHlo.after (((hostOps1 (F := Ideal)).drop 89).take 5) V (Proc.devRef .tc main_call0_v24) : FVec Ideal S4096 .f32) (ix1 k) = FloatOps.sitofp (F := Ideal) .f32 ((V (Proc.devRef .tc main_call0_v5) : IVec S4096 32) (ix1 k)) := by
  after_reads_simp
  simp -implicitDefEqProofs only [StableHlo.TRef.toBuf, StableHlo.TRef.ofBuf, cast_cast, cast_eq]
  pointwise

theorem scoreR (k : Fin 4096) : (StableHlo.after (((hostOps1 (F := Ideal)).drop 89).take 5) V (Proc.devRef .tc main_call0_v25) : FVec Ideal S1x4096 .f32) (ix2 (0 : Fin 1) k) = (V (Proc.devRef .tc main_call0_values) : FVec Ideal S4096 .f32) (ix1 k) := by
  after_reads_simp
  simp -implicitDefEqProofs only [StableHlo.TRef.toBuf, StableHlo.TRef.ofBuf, cast_cast, cast_eq]
  pointwise

theorem labelR (k : Fin 4096) : (StableHlo.after (((hostOps1 (F := Ideal)).drop 89).take 5) V (Proc.devRef .tc main_call0_v26) : FVec Ideal S1x4096 .f32) (ix2 (0 : Fin 1) k) = FloatOps.sitofp (F := Ideal) .f32 ((V (Proc.devRef .tc main_call0_v5) : IVec S4096 32) (ix1 k)) := by
  after_reads_simp
  simp -implicitDefEqProofs only [StableHlo.TRef.toBuf, StableHlo.TRef.ofBuf, cast_cast, cast_eq]
  pointwise

theorem third_v6 : StableHlo.after (((hostOps1 (F := Ideal)).drop 89).take 5) V (Proc.devRef .tc main_call0_v6) = V (Proc.devRef .tc main_call0_v6) := by
  after_reads_simp

theorem third_v5 : StableHlo.after (((hostOps1 (F := Ideal)).drop 89).take 5) V (Proc.devRef .tc main_call0_v5) = V (Proc.devRef .tc main_call0_v5) := by
  after_reads_simp

theorem third_values : StableHlo.after (((hostOps1 (F := Ideal)).drop 89).take 5) V (Proc.devRef .tc main_call0_values) = V (Proc.devRef .tc main_call0_values) := by
  after_reads_simp

theorem third_arg3 : StableHlo.after (((hostOps1 (F := Ideal)).drop 89).take 5) V (Proc.devRef .tc main_arg3) = V (Proc.devRef .tc main_arg3) := by
  after_reads_simp

end Third

section Last
variable (V : Vals)

theorem props4 (k : Fin 4096) (a : Fin 4) : (StableHlo.after ((hostOps1 (F := Ideal)).drop 94) V (Proc.devRef .tc main_call0_v30) : FVec Ideal S4x4096 .f32) (ix2 a k) = (V (Proc.devRef .tc main_call0_v6) : FVec Ideal S4096x4 .f32) (ix2 k a) := by
  after_reads_simp
  simp -implicitDefEqProofs only [StableHlo.TRef.toBuf, StableHlo.TRef.ofBuf, cast_cast, cast_eq]
  pointwise

theorem regs4 (k : Fin 4096) (a : Fin 4) : (StableHlo.after ((hostOps1 (F := Ideal)).drop 94) V (Proc.devRef .tc main_call0_v31) : FVec Ideal S4x4096 .f32) (ix2 a k) = (V (Proc.devRef .tc main_call0_v23) : FVec Ideal S4096x4 .f32) (ix2 k a) := by
  after_reads_simp
  simp -implicitDefEqProofs only [StableHlo.TRef.toBuf, StableHlo.TRef.ofBuf, cast_cast, cast_eq]
  pointwise

theorem labelC (k : Fin 4096) : (StableHlo.after ((hostOps1 (F := Ideal)).drop 94) V (Proc.devRef .tc main_call0_v32) : FVec Ideal S4096x1 .f32) (ix2 k (0 : Fin 1)) = (V (Proc.devRef .tc main_call0_v24) : FVec Ideal S4096 .f32) (ix1 k) := by
  after_reads_simp
  simp -implicitDefEqProofs only [StableHlo.TRef.toBuf, StableHlo.TRef.ofBuf, cast_cast, cast_eq]
  pointwise

theorem scoreRow (k : Fin 4096) : (StableHlo.after ((hostOps1 (F := Ideal)).drop 94) V (Proc.devRef .tc main_call0_v27) : FVec Ideal S2x4096 .f32) (ix2 (0 : Fin 2) k) = (V (Proc.devRef .tc main_call0_v25) : FVec Ideal S1x4096 .f32) (ix2 (0 : Fin 1) k) := by
  after_reads_simp
  simp -implicitDefEqProofs only [StableHlo.TRef.toBuf, StableHlo.TRef.ofBuf, cast_cast, cast_eq]
  pointwise
  rfl

theorem labelRow (k : Fin 4096) : (StableHlo.after ((hostOps1 (F := Ideal)).drop 94) V (Proc.devRef .tc main_call0_v27) : FVec Ideal S2x4096 .f32) (ix2 (1 : Fin 2) k) = (V (Proc.devRef .tc main_call0_v26) : FVec Ideal S1x4096 .f32) (ix2 (0 : Fin 1) k) := by
  after_reads_simp
  simp -implicitDefEqProofs only [StableHlo.TRef.toBuf, StableHlo.TRef.ofBuf, cast_cast, cast_eq]
  pointwise
  rfl

theorem sizes (q : Fin 2) : (StableHlo.after ((hostOps1 (F := Ideal)).drop 94) V (Proc.devRef .tc main_call0_v29) : FVec Ideal S1x2 .f32) (ix2 (0 : Fin 1) q) = FloatOps.sitofp (F := Ideal) .f32 ((V (Proc.devRef .tc main_arg3) : IVec S2 32) (ix1 q)) := by
  after_reads_simp
  simp -implicitDefEqProofs only [StableHlo.TRef.toBuf, StableHlo.TRef.ofBuf, cast_cast, cast_eq]
  pointwise

theorem last_v6 : StableHlo.after ((hostOps1 (F := Ideal)).drop 94) V (Proc.devRef .tc main_call0_v6) = V (Proc.devRef .tc main_call0_v6) := by
  after_reads_simp

theorem last_v5 : StableHlo.after ((hostOps1 (F := Ideal)).drop 94) V (Proc.devRef .tc main_call0_v5) = V (Proc.devRef .tc main_call0_v5) := by
  after_reads_simp

theorem last_values : StableHlo.after ((hostOps1 (F := Ideal)).drop 94) V (Proc.devRef .tc main_call0_values) = V (Proc.devRef .tc main_call0_values) := by
  after_reads_simp

theorem last_v23 : StableHlo.after ((hostOps1 (F := Ideal)).drop 94) V (Proc.devRef .tc main_call0_v23) = V (Proc.devRef .tc main_call0_v23) := by
  after_reads_simp

end Last

/-- The scores as one list. -/
def flat (x : FVec Ideal S20000x90 .f32) : FVec Ideal S1800000 .f32 := shapeCast S1800000 x shapeCasts_S20000x90_S1800000

section First
variable (V : Vals)

theorem values : (StableHlo.after ((hostOps1 (F := Ideal)).take 3) V (Proc.devRef .tc main_call0_values) : FVec Ideal S4096 .f32) = (Host.topK S4096 0 (FloatOps.cmpfTotal (F := Ideal) (φ := .f32) .gt)
    (flat (V (Proc.devRef .tc main_call0_v0))) sliceFits_S1800000_S4096).1 := by
  after_reads_simp
  simp -implicitDefEqProofs only [StableHlo.TRef.toBuf, StableHlo.TRef.ofBuf, cast_cast, cast_eq]
  rfl

theorem indices : (StableHlo.after ((hostOps1 (F := Ideal)).take 3) V (Proc.devRef .tc main_call0_indices) : IVec S4096 32) = (Host.topK S4096 0 (FloatOps.cmpfTotal (F := Ideal) (φ := .f32) .gt)
    (flat (V (Proc.devRef .tc main_call0_v0))) sliceFits_S1800000_S4096).2 := by
  after_reads_simp
  simp -implicitDefEqProofs only [StableHlo.TRef.toBuf, StableHlo.TRef.ofBuf, cast_cast, cast_eq]
  rfl

theorem first_arg1 : StableHlo.after ((hostOps1 (F := Ideal)).take 3) V (Proc.devRef .tc main_arg1) = V (Proc.devRef .tc main_arg1) := by
  after_reads_simp

theorem first_arg2 : StableHlo.after ((hostOps1 (F := Ideal)).take 3) V (Proc.devRef .tc main_arg2) = V (Proc.devRef .tc main_arg2) := by
  after_reads_simp

theorem first_arg3 : StableHlo.after ((hostOps1 (F := Ideal)).take 3) V (Proc.devRef .tc main_arg3) = V (Proc.devRef .tc main_arg3) := by
  after_reads_simp

theorem split1 : StableHlo.after (hostOps1 (F := Ideal)) V = StableHlo.after ((hostOps1 (F := Ideal)).drop 94)
    (StableHlo.after (((hostOps1 (F := Ideal)).drop 89).take 5)
    (StableHlo.after (((hostOps1 (F := Ideal)).drop 3).take 86) (StableHlo.after ((hostOps1 (F := Ideal)).take 3) V))) := by
  rw [← StableHlo.after_append, ← StableHlo.after_append, ← StableHlo.after_append]
  rfl

end First

section Post
variable (V : Vals)

theorem outValues : (StableHlo.after ((hostOps2 (F := Ideal)).take 3) V (Proc.devRef .tc main_v0_1) : FVec Ideal S100 .f32) = (Host.topK S100 0 (FloatOps.cmpfTotal (F := Ideal) (φ := .f32) .gt)
    (shapeCast S4096 (V (Proc.devRef .tc main_call0_v33_1) : FVec Ideal S1x4096 .f32) shapeCasts_S1x4096_S4096) sliceFits_S4096_S100).1 := by
  after_reads_simp
  simp -implicitDefEqProofs only [StableHlo.TRef.toBuf, StableHlo.TRef.ofBuf, cast_cast, cast_eq]
  rfl

theorem outIndices : (StableHlo.after ((hostOps2 (F := Ideal)).take 3) V (Proc.devRef .tc main_call0_indices_8) : IVec S100 32) = (Host.topK S100 0 (FloatOps.cmpfTotal (F := Ideal) (φ := .f32) .gt)
    (shapeCast S4096 (V (Proc.devRef .tc main_call0_v33_1) : FVec Ideal S1x4096 .f32) shapeCasts_S1x4096_S4096) sliceFits_S4096_S100).2 := by
  after_reads_simp
  simp -implicitDefEqProofs only [StableHlo.TRef.toBuf, StableHlo.TRef.ofBuf, cast_cast, cast_eq]
  rfl

theorem pre_v5 : StableHlo.after ((hostOps2 (F := Ideal)).take 3) V (Proc.devRef .tc main_call0_v5) = V (Proc.devRef .tc main_call0_v5) := by
  after_reads_simp

theorem pre_boxes : StableHlo.after ((hostOps2 (F := Ideal)).take 3) V (Proc.devRef .tc main_call0_v33_0) = V (Proc.devRef .tc main_call0_v33_0) := by
  after_reads_simp

theorem post_values : StableHlo.after ((hostOps2 (F := Ideal)).drop 3) V (Proc.devRef .tc main_v0_1) = V (Proc.devRef .tc main_v0_1) := by
  after_reads_simp

theorem outBoxes (σ : Fin 100 → Fin 4096) (h : ∀ k, (V (Proc.devRef .tc main_call0_indices_8) : IVec S100 32) (ix1 k) = BitVec.ofNat 32 (σ k).val) (k : Fin 100) (a : Fin 4) :
    (StableHlo.after ((hostOps2 (F := Ideal)).drop 3) V (Proc.devRef .tc main_v0_0) : FVec Ideal S100x4 .f32) (ix2 k a) = (V (Proc.devRef .tc main_call0_v33_0) : FVec Ideal S4x4096 .f32) (ix2 a (σ k)) := by
  after_reads_simp
  simp -implicitDefEqProofs only [StableHlo.TRef.toBuf, StableHlo.TRef.ofBuf, cast_cast, cast_eq]
  refine (Take.takeR (by omega) _ rfl rfl rfl rfl rfl _ _ _ σ h _ 4095 rfl _ _ _ _ _ _ _ _ _ k a).trans ?_
  pointwise

theorem outLabels (σ : Fin 100 → Fin 4096) (h : ∀ k, (V (Proc.devRef .tc main_call0_indices_8) : IVec S100 32) (ix1 k) = BitVec.ofNat 32 (σ k).val) (k : Fin 100) :
    (StableHlo.after ((hostOps2 (F := Ideal)).drop 3) V (Proc.devRef .tc main_v0_2) : IVec S100 32) (ix1 k) = (V (Proc.devRef .tc main_call0_v5) : IVec S4096 32) (ix1 (σ k)) := by
  after_reads_simp
  simp -implicitDefEqProofs only [StableHlo.TRef.toBuf, StableHlo.TRef.ofBuf, cast_cast, cast_eq]
  exact Take.takeV (by omega) _ rfl rfl rfl rfl _ _ _ σ h _ 4095 rfl _ _ _ _ _ _ _ _ k

theorem split2 : StableHlo.after (hostOps2 (F := Ideal)) V = StableHlo.after ((hostOps2 (F := Ideal)).drop 3)
    (StableHlo.after ((hostOps2 (F := Ideal)).take 3) V) := by
  rw [← StableHlo.after_append]
  rfl

end Post

end

end Cert.Proof.KHost
-- ==== Proof.Alg.KLoop.lean ====
/-
  The second kernel's chunk loop as greedy suppression: the carried vector is one where an entry is kept and zero where it
  is not; a trip is a turn; a chunk is 128 turns; and the loop ends either after all turns or with 100 entries kept among
  the rows already gone through.
-/
module

public import proofs.«01_k».proof.Proof.KI.Nms
public import proofs.«01_k».proof.Proof.Alg.Spec
public import Idealize.ShloMosaic.Lib.WordCmp
public import Idealize.ShloMosaic.Lib.IdealHost

@[expose] public section

set_option maxRecDepth 16384

namespace Cert.Proof.KLoop

open Cert.KernelIdeal Cert.KernelIdeal.Gen Cert.Proof.KI
open Idealize.ShloMosaic Idealize.ShloMosaic.WordCmp

noncomputable section

open Classical in
/-- The vector of ones where an entry is kept. -/
def ind (K : Fin 4096 → Prop) (n : Fin 4096) : EReal := if K n then 1 else 0

/-- The carried vector is the kept entries' ones. -/
def Is (x : FVec Ideal S1x4096 .f32) (K : Fin 4096 → Prop) : Prop := ∀ n : Fin 4096, x (ix2 (0 : Fin 1) n) = ind K n

theorem ind_pos (K : Fin 4096 → Prop) (n : Fin 4096) : 0 < ind K n ↔ K n := by
  unfold ind
  split <;> simp_all

theorem lane_at (n : Fin 4096) : (Ins.lane : IVec S1x4096 32) (ix2 (0 : Fin 1) n) = BitVec.ofNat 32 n.val := by
  unfold Ins.lane
  pointwise

theorem word (j : ℕ) (k : ℕ) (hi : 128 * j + k < 4096) :
    Scalar.addi (Scalar.muli (BitVec.ofNat 32 j) 128#32) (Scf.iv 0#32 1#32 k) = BitVec.ofNat 32 (128 * j + k) := by
  show BitVec.ofNat 32 j * 128#32 + (0#32 + BitVec.ofNat 32 k * 1#32) = _
  refine BitVec.eq_of_toNat_eq ?_
  simp only [BitVec.toNat_add, BitVec.toNat_mul, BitVec.toNat_ofNat]
  omega

theorem sgt (a b : ℕ) (ha : a < 4096) (hb : b < 4096) : IntOp.cmpi .sgt (BitVec.ofNat 32 a) (BitVec.ofNat 32 b) = 1#1 ↔ b < a := by
  rw [cmpi_sgt_ofNat (by omega) (by omega), ofBool_decide_eq_one_iff]

theorem slt (a b : ℕ) (ha : a < 2 ^ 31) (hb : b < 2 ^ 31) : IntOp.cmpi .slt (BitVec.ofNat 32 a) (BitVec.ofNat 32 b) = 1#1 ↔ a < b := by
  rw [cmpi_slt_ofNat (by omega) (by omega), ofBool_decide_eq_one_iff]

theorem eqw (a b : ℕ) (ha : a < 4096) (hb : b < 4096) : IntOp.cmpi .eq (BitVec.ofNat 32 a) (BitVec.ofNat 32 b) = 1#1 ↔ a = b := by
  rw [cmpi_eq_eq, ofBool_decide_eq_one_iff, ofNat_eq_ofNat_iff (by omega) (by omega)]

/-- One trip's payload, read at an entry. -/
theorem pay_at (j : BitVec 32) (k : Fin k1_t1_loop.trips) (x r : FVec Ideal S1x4096 .f32) (n : Fin 4096) :
    k1_pay59 (F := Ideal) Ins.lane j k x r (ix2 (0 : Fin 1) n)
      = Scalar.select (IntOp.andi (IntOp.andi (BitVec.ofBool (decide (Ideal.ofBits .f32 0x3F000000#32 < r (ix2 (0 : Fin 1) n))))
            (IntOp.cmpi .sgt (BitVec.ofNat 32 n.val) (Scalar.addi (Scalar.muli j 128#32) (Scf.iv 0#32 1#32 k))))
          (BitVec.ofBool (decide ((0 : EReal) < ∑ _u : Fin 1, ∑ p : Fin 4096,
            Scalar.select (IntOp.cmpi .eq (BitVec.ofNat 32 p.val) (Scalar.addi (Scalar.muli j 128#32) (Scf.iv 0#32 1#32 k))) (x (ix2 (0 : Fin 1) p)) 0))))
        0 (x (ix2 (0 : Fin 1) n)) := by
  unfold k1_pay59
  pointwise
  simp only [lane_at]

theorem count_at (j : ℕ) (x : FVec Ideal S1x4096 .f32) :
    countV (F := Ideal) Ins.lane (BitVec.ofNat 32 j) x = ∑ _u : Fin 1, ∑ p : Fin 4096,
      Scalar.select (IntOp.cmpi .slt (BitVec.ofNat 32 p.val) (Scalar.addi (Scalar.muli (BitVec.ofNat 32 j) 128#32) 128#32)) (x (ix2 (0 : Fin 1) p)) 0 := by
  unfold countV k1_pay3
  pointwise
  simp only [lane_at]

theorem hundred : Ideal.ofBits .f32 0x42C80000#32 = ((100 : ℝ) : EReal) := by
  simp [Ideal.ofBits, Ideal.ieee, -EReal.coe_mul]; norm_num

theorem small_pos : (0 : EReal) < Ideal.ofBits .f32 0x3D4CCCCD#32 := by
  have : Ideal.ofBits .f32 0x3D4CCCCD#32 = ((13421773 * (2 ^ 28)⁻¹ : ℝ) : EReal) := by
    simp [Ideal.ofBits, Ideal.ieee, -EReal.coe_mul]
  rw [this]
  exact EReal.coe_pos.mpr (by norm_num)

theorem low_neg : Ideal.ofBits .f32 0xBF800000#32 < (0 : EReal) := by
  have : Ideal.ofBits .f32 0xBF800000#32 = ((-1 : ℝ) : EReal) := by
    simp [Ideal.ofBits, Ideal.ieee, -EReal.coe_mul, -EReal.coe_neg]; norm_num
  rw [this]
  exact EReal.coe_neg'.mpr (by norm_num)

theorem bit_and (a b : BitVec 1) : IntOp.andi a b = 1#1 ↔ a = 1#1 ∧ b = 1#1 := by revert a b; decide

theorem sel {α : Type} (c : BitVec 1) (a b : α) : Scalar.select c a b = if c = 1#1 then a else b := rfl

theorem trips_eq : k1_t1_loop.trips = 128 := by decide +kernel

/-- The kept entry a trip asks about, found by a sum over the lanes. -/
theorem sum_one (K : Fin 4096 → Prop) (i : Fin 4096) :
    (∑ _u : Fin 1, ∑ p : Fin 4096, Scalar.select (IntOp.cmpi .eq (BitVec.ofNat 32 p.val) (BitVec.ofNat 32 i.val)) (ind K p) 0) = ind K i := by
  rw [Fin.sum_univ_one, Finset.sum_eq_single i]
  · rw [sel, if_pos ((eqw _ _ i.isLt i.isLt).mpr rfl)]
  · intro p _ hp
    rw [sel, if_neg fun h => hp (Fin.ext ((eqw _ _ p.isLt i.isLt).mp h))]
  · intro h
    exact absurd (Finset.mem_univ i) h

/-- A trip is a turn. -/
theorem pay_turn (M : Fin 4096 → Fin 4096 → EReal) (K : Fin 4096 → Prop) (j : ℕ) (k : Fin k1_t1_loop.trips) (hi : 128 * j + k.val < 4096)
    (x r : FVec Ideal S1x4096 .f32) (hx : Is x K) (hr : ∀ n : Fin 4096, r (ix2 (0 : Fin 1) n) = M ⟨128 * j + k.val, hi⟩ n) :
    Is (k1_pay59 (F := Ideal) Ins.lane (BitVec.ofNat 32 j) k x r) (Spec.turn M K ⟨128 * j + k.val, hi⟩) := by
  intro n
  rw [pay_at, word j k.val hi]
  have hx' : ∀ p : Fin 4096, x (ix2 (0 : Fin 1) p) = ind K p := hx
  simp only [hx']
  rw [sum_one K ⟨128 * j + k.val, hi⟩, hr, sel]
  have hc : (IntOp.andi (IntOp.andi (BitVec.ofBool (decide (Ideal.ofBits .f32 0x3F000000#32 < M ⟨128 * j + k.val, hi⟩ n)))
      (IntOp.cmpi .sgt (BitVec.ofNat 32 n.val) (BitVec.ofNat 32 (128 * j + k.val))))
      (BitVec.ofBool (decide ((0 : EReal) < ind K ⟨128 * j + k.val, hi⟩))) = 1#1)
      ↔ (Ideal.ofBits .f32 0x3F000000#32 < M ⟨128 * j + k.val, hi⟩ n ∧ (⟨128 * j + k.val, hi⟩ : Fin 4096) < n ∧ K ⟨128 * j + k.val, hi⟩) := by
    rw [bit_and, bit_and, ofBool_decide_eq_one_iff, ofBool_decide_eq_one_iff, sgt _ _ n.isLt hi, ind_pos, and_assoc]
    exact Iff.rfl
  unfold Spec.turn
  by_cases h : Ideal.ofBits .f32 0x3F000000#32 < M ⟨128 * j + k.val, hi⟩ n ∧ (⟨128 * j + k.val, hi⟩ : Fin 4096) < n ∧ K ⟨128 * j + k.val, hi⟩
  · rw [if_pos (hc.mpr h)]
    unfold ind
    rw [if_neg (fun x => x.2 h)]
  · rw [if_neg (fun x => h (hc.mp x))]
    unfold ind
    by_cases hk : K n
    · rw [if_pos hk, if_pos ⟨hk, h⟩]
    · rw [if_neg hk, if_neg (fun x => hk x.1)]

/-- The row a trip reads of a strip. -/
theorem row_at (X : S128x4096.Idx → Elt Ideal .f32) (k : Fin k1_t1_loop.trips) (hk : k.val < 128) (n : Fin 4096) :
    (((strM.access (Rect.unit (s := S128x4096) (k1_off6 k) S1x4096.size (k1_off6_inb k)) : View sig .tc _ _ _).read (Elt Ideal) X) : FVec Ideal S1x4096 .f32)
      (ix2 (0 : Fin 1) n) = X (ix2 ⟨k.val, hk⟩ n) := by
  show X _ = X _
  congr 1
  funext a
  refine Fin.ext ?_
  have h : ((Rect.unit (s := S128x4096) (k1_off6 k) S1x4096.size (k1_off6_inb k)).emb (ix2 (0 : Fin 1) n) a).val = (k1_off6 k) a + (ix2 (0 : Fin 1) n a).val := by
    simp
  refine (show _ = _ from h).trans ?_
  have he : (k1_off6 k) a = (![k.val, 0] : Fin 2 → ℕ) a := congrFun (k1_off6_eq k) a
  rw [he]
  match a with
  | ⟨0, _⟩ => exact Nat.add_zero k.val
  | ⟨1, _⟩ => exact Nat.zero_add n.val

/-- A chunk's first `k` trips are that many turns. -/
theorem trips_keep (M : Fin 4096 → Fin 4096 → EReal) (K : Fin 4096 → Prop) (X : S128x4096.Idx → Elt Ideal .f32) (j : ℕ) (hj : j < 32)
    (hX : ∀ (q : Fin 128) (hi : 128 * j + q.val < 4096) (n : Fin 4096), (X : FVec Ideal S128x4096 .f32) (ix2 q n) = M ⟨128 * j + q.val, hi⟩ n)
    (x : FVec Ideal S1x4096 .f32) (hx : Is x (Spec.keep M K (128 * j))) :
    ∀ k, k ≤ 128 → Is (tripsV (F := Ideal) X Ins.lane (BitVec.ofNat 32 j) x k) (Spec.keep M K (128 * j + k))
  | 0, _ => hx
  | k + 1, hk => by
    have ih := trips_keep M K X j hj hX x hx k (by omega)
    have hkt : k < k1_t1_loop.trips := by rw [trips_eq]; omega
    have hi : 128 * j + k < 4096 := by omega
    rw [tripsV, dif_pos hkt]
    unfold tripV
    have := pay_turn M (Spec.keep M K (128 * j + k)) j ⟨k, hkt⟩ hi _ _ ih fun n => (row_at X ⟨k, hkt⟩ (show k < 128 by omega) n).trans (hX ⟨k, by omega⟩ hi n)
    rw [← Nat.add_assoc, Spec.keep, dif_pos hi]
    exact this

open Classical in
/-- The count after a chunk is the number kept among the rows gone through. -/
theorem count_eq (K : Fin 4096 → Prop) (j : ℕ) (hj : j < 32) (x : FVec Ideal S1x4096 .f32) (hx : Is x K) :
    countV (F := Ideal) Ins.lane (BitVec.ofNat 32 j) x = (((Finset.univ.filter fun p : Fin 4096 => p.val < 128 * (j + 1) ∧ K p).card : ℝ) : EReal) := by
  rw [count_at, Fin.sum_univ_one]
  have hw : Scalar.addi (Scalar.muli (BitVec.ofNat 32 j) 128#32) 128#32 = BitVec.ofNat 32 (128 * (j + 1)) := by
    show BitVec.ofNat 32 j * 128#32 + 128#32 = _
    refine BitVec.eq_of_toNat_eq ?_
    simp only [BitVec.toNat_add, BitVec.toNat_mul, BitVec.toNat_ofNat]
    omega
  have hs : ∀ p : Fin 4096, Scalar.select (IntOp.cmpi .slt (BitVec.ofNat 32 p.val) (BitVec.ofNat 32 (128 * (j + 1)))) (x (ix2 (0 : Fin 1) p)) 0
      = (((if p.val < 128 * (j + 1) ∧ K p then 1 else 0 : ℝ)) : EReal) := by
    intro p
    have hp := p.isLt
    rw [hx p, sel]
    unfold ind
    by_cases h : p.val < 128 * (j + 1)
    · rw [if_pos ((slt _ _ (by omega) (by omega)).mpr h)]
      by_cases hk : K p
      · rw [if_pos hk, if_pos ⟨h, hk⟩]; rfl
      · rw [if_neg hk, if_neg fun x => hk x.2]; rfl
    · rw [if_neg fun x => h ((slt _ _ (by omega) (by omega)).mp x), if_neg fun x => h x.1]; rfl
  rw [hw]
  simp only [hs]
  rw [← Finset.sum_boole]
  exact (map_sum (⟨⟨fun r : ℝ => (r : EReal), EReal.coe_zero⟩, EReal.coe_add⟩ : ℝ →+ EReal) _ _).symm

open Classical in
/-- THE LOOP: from chunk `j` with `f` more, it ends keeping what some number of turns keeps, either all 4096 or a number
    such that at least 100 are kept among the rows gone through. -/
theorem loop_keep (M : Fin 4096 → Fin 4096 → EReal) (K : Fin 4096 → Prop) (strip : ℕ → S128x4096.Idx → Elt Ideal .f32)
    (hX : ∀ j (q : Fin 128) (hi : 128 * j + q.val < 4096) (n : Fin 4096), (strip j : FVec Ideal S128x4096 .f32) (ix2 q n) = M ⟨128 * j + q.val, hi⟩ n) :
    ∀ (f j : ℕ), j + f = 32 → ∀ (x : FVec Ideal S1x4096 .f32) (c : EReal), Is x (Spec.keep M K (128 * j)) →
      (c < ((100 : ℝ) : EReal) ∨ 100 ≤ (Finset.univ.filter fun p : Fin 4096 => p.val < 128 * j ∧ Spec.keep M K (128 * j) p).card) →
      ∃ P ≤ 4096, Is (loopV (F := Ideal) strip Ins.lane f j x c).2.1 (Spec.keep M K P)
        ∧ (P = 4096 ∨ 100 ≤ (Finset.univ.filter fun p : Fin 4096 => p.val < P ∧ Spec.keep M K P p).card)
  | 0, j, hj, x, c, hx, hc => ⟨128 * j, by omega, hx, .inl (by omega)⟩
  | f + 1, j, hj, x, c, hx, hc => by
    rw [loopV]
    have hj' : j < 32 := by omega
    by_cases ht : testV (F := Ideal) (BitVec.ofNat 32 j) c = 1#1
    · rw [if_pos ht]
      have hk := trips_keep M K (strip j) j hj' (hX j) x hx k1_t1_loop.trips trips_eq.le
      rw [show 128 * j + k1_t1_loop.trips = 128 * (j + 1) by rw [trips_eq]; ring] at hk
      refine loop_keep M K strip hX f (j + 1) (by omega) _ _ hk ?_
      rw [count_eq _ j hj' _ hk]
      by_cases h100 : 100 ≤ (Finset.univ.filter fun p : Fin 4096 => p.val < 128 * (j + 1) ∧ Spec.keep M K (128 * (j + 1)) p).card
      · exact .inr h100
      · refine .inl (EReal.coe_lt_coe_iff.mpr ?_)
        exact_mod_cast Nat.lt_of_not_le h100
    · rw [if_neg ht]
      refine ⟨128 * j, by omega, hx, .inr ?_⟩
      rcases hc with hc | hc
      · refine absurd ?_ ht
        unfold testV
        show IntOp.andi (IntOp.cmpi .slt (BitVec.ofNat 32 j) (BitVec.ofNat 32 32)) (BitVec.ofBool (decide (c < Ideal.ofBits .f32 0x42C80000#32))) = 1#1
        rw [bit_and, slt _ _ (by omega) (by omega), ofBool_decide_eq_one_iff, hundred]
        exact ⟨hj', hc⟩
      · exact hc

end

end Cert.Proof.KLoop
-- ==== Proof.Alg.Goal.lean ====
/-
  What both programs compute of their arguments: the 4096 best scores, their boxes, greedy suppression among them, and the
  100 best of what is kept. Suppression may stop as soon as 100 are kept.
-/
module

public import proofs.«01_k».proof.Proof.Alg.Spec
public import proofs.«01_k».proof.Proof.Alg.TopK
public import proofs.«01_k».proof.Proof.Alg.KLoop

@[expose] public section

set_option maxRecDepth 16384

open Idealize.ShloMosaic
open scoped Classical

namespace Cert.Proof.Goal

noncomputable section

/-- The greatest of a vector read as `f`. -/
theorem greatest {n m : ℕ} (hm : m ≤ n) (x : (⟨1, ![n]⟩ : Shape).Idx → EReal) (f : Fin n → EReal) (hx : ∀ s, x (.ofFin s) = f s)
    (h : (⟨1, ![n]⟩ : Shape).Slices (fun _ => 0) ⟨1, ![m]⟩) (r : Fin m) :
    (Host.topK ⟨1, ![m]⟩ 0 (FloatOps.cmpfTotal (F := Ideal) (φ := .f32) .gt) x h).1 (.ofFin r) = f (TopK.src f (r.castLE hm))
      ∧ (Host.topK ⟨1, ![m]⟩ 0 (FloatOps.cmpfTotal (F := Ideal) (φ := .f32) .gt) x h).2 (.ofFin r) = BitVec.ofNat 32 (TopK.src f (r.castLE hm)).val := by
  have e : (fun s => x (.ofFin s)) = f := funext hx
  have t := TopK.topK_at hm x h r
  rw [e, hx] at t
  exact t

/-- The programs' arguments, entry by entry. -/
structure Args where
  logits : Fin 20000 → Fin 91 → EReal
  regs : Fin 20000 → Fin 364 → EReal
  props : Fin 20000 → Fin 4 → EReal
  size : Fin 2 → BitVec 32

variable (A : Args)

/-- A position's row and column in the table of scores. -/
def row (s : Fin 1800000) : Fin 20000 := ⟨s.val / 90, by have := s.isLt; omega⟩
def col (s : Fin 1800000) : Fin 91 := ⟨1 + s.val % 90, by omega⟩

/-- The probability at a position, and the score there. -/
def prob (s : Fin 1800000) : EReal := Spec.soft (A.logits (row s)) (col s)
def value (s : Fin 1800000) : EReal := Spec.mask (prob A s)

/-- Where the `k`-th candidate is, its score, its box, its label. -/
def top (k : Fin 4096) : Fin 1800000 := TopK.src (value A) (k.castLE (by omega))
def score (k : Fin 4096) : EReal := value A (top A k)
def cand (k : Fin 4096) : Fin 4 → EReal :=
  Spec.box (FloatOps.sitofp (F := Ideal) .f32 (A.size 1)) (FloatOps.sitofp (F := Ideal) .f32 (A.size 0)) (A.props (row (top A k)))
    fun a => A.regs (row (top A k)) ⟨(col (top A k)).val * 4 + a.val, by have := (col (top A k)).isLt; have := a.isLt; omega⟩
def label (k : Fin 4096) : BitVec 32 := BitVec.ofNat 32 (1 + (top A k).val % 90)
def moved (k : Fin 4096) : Fin 4 → EReal := Spec.move (FloatOps.sitofp (F := Ideal) .f32 (label A k)) (cand A k)
def over (i n : Fin 4096) : EReal := Spec.iou (moved A i) (moved A n)

/-- The candidates above the threshold. -/
def fine (k : Fin 4096) : Prop := Ideal.ofBits .f32 0x3D4CCCCD#32 < prob A (top A k)

/-- What is kept after `P` turns, and the scores then. -/
def keep (P : ℕ) (n : Fin 4096) : Prop := Spec.keep (over A) (fine A) P n
def final (P : ℕ) (n : Fin 4096) : EReal := if keep A P n then score A n else Ideal.ofBits .f32 0xBF800000#32

/-- The results' candidates. -/
def pick (P : ℕ) (r : Fin 100) : Fin 4096 := TopK.src (final A P) (r.castLE (by omega))

theorem top_greatest (x : (⟨1, ![1800000]⟩ : Shape).Idx → EReal) (hx : ∀ s, x (.ofFin s) = value A s)
    (h : (⟨1, ![1800000]⟩ : Shape).Slices (fun _ => 0) ⟨1, ![4096]⟩) (r : Fin 4096) :
    (Host.topK ⟨1, ![4096]⟩ 0 (FloatOps.cmpfTotal (F := Ideal) (φ := .f32) .gt) x h).1 (.ofFin r) = score A r
      ∧ (Host.topK ⟨1, ![4096]⟩ 0 (FloatOps.cmpfTotal (F := Ideal) (φ := .f32) .gt) x h).2 (.ofFin r) = BitVec.ofNat 32 (top A r).val :=
  greatest (by omega) x (value A) hx h r

theorem pick_greatest (P : ℕ) (x : (⟨1, ![4096]⟩ : Shape).Idx → EReal) (hx : ∀ s, x (.ofFin s) = final A P s)
    (h : (⟨1, ![4096]⟩ : Shape).Slices (fun _ => 0) ⟨1, ![100]⟩) (r : Fin 100) :
    (Host.topK ⟨1, ![100]⟩ 0 (FloatOps.cmpfTotal (F := Ideal) (φ := .f32) .gt) x h).1 (.ofFin r) = final A P (pick A P r)
      ∧ (Host.topK ⟨1, ![100]⟩ 0 (FloatOps.cmpfTotal (F := Ideal) (φ := .f32) .gt) x h).2 (.ofFin r) = BitVec.ofNat 32 (pick A P r).val :=
  greatest (by omega) x (final A P) hx h r

theorem score_desc (p q : Fin 4096) (h : p ≤ q) : score A q ≤ score A p := TopK.src_desc _ _ _ h

theorem score_fine (k : Fin 4096) (h : fine A k) : score A k = prob A (top A k) := if_pos h

theorem fine_iff (k : Fin 4096) : 0 < score A k ↔ fine A k := by
  constructor
  · intro h
    by_contra hn
    rw [show score A k = Ideal.ofBits .f32 0xBF800000#32 from if_neg hn] at h
    exact absurd h (not_lt.mpr KLoop.low_neg.le)
  · intro h
    rw [score_fine A k h]
    exact KLoop.small_pos.trans h

theorem keep_fine (P : ℕ) (n : Fin 4096) (h : keep A P n) : fine A n := Spec.keep_sub _ _ n P h

theorem keep_low (P : ℕ) (n : Fin 4096) (h : keep A P n) : Ideal.ofBits .f32 0xBF800000#32 < score A n :=
  KLoop.low_neg.trans ((fine_iff A n).mpr (keep_fine A P n h))

/-- Suppression stopped once 100 are kept picks what the whole of it does. -/
theorem stop (P : ℕ) (hP : P ≤ 4096) (h : P = 4096 ∨ 100 ≤ (Finset.univ.filter fun p : Fin 4096 => p.val < P ∧ keep A P p).card) (r : Fin 100) :
    pick A P r = pick A 4096 r ∧ final A P (pick A P r) = final A 4096 (pick A 4096 r) := by
  rcases h with rfl | h
  · exact ⟨rfl, rfl⟩
  · obtain ⟨e, k, k'⟩ := TopK.src_prefix (by omega : 100 ≤ 4096) (score A) (score_desc A) (Ideal.ofBits .f32 0xBF800000#32) (keep A P) (keep A 4096) P
      (fun p hp => by
        have := Spec.keep_stable (over A) (fine A) p P hp (4096 - P)
        rw [Nat.add_sub_cancel' hP] at this
        exact this.symm) (keep_low A P) (keep_low A 4096) h r
    have e' : pick A P r = pick A 4096 r := e
    refine ⟨e', ?_⟩
    rw [← e']
    exact (if_pos k).trans (if_pos k').symm

end

end Cert.Proof.Goal
-- ==== Proof.Alg.KRows.lean ====
/-
  What the second kernel is given: the candidates' proposals, regressions, scores, labels and the image's size.
-/
module

public import proofs.«01_k».proof.Proof.Alg.Arr
public import proofs.«01_k».proof.Proof.Alg.KSoft
public import proofs.«01_k».proof.Proof.Alg.KHost
public import proofs.«01_k».proof.Proof.Alg.Goal

@[expose] public section

set_option maxRecDepth 16384

namespace Cert.Proof.KRes

open Cert.KernelIdeal Cert.KernelIdeal.Gen Cert.Proof.KI
open Idealize.ShloMosaic Idealize.ShloMosaic.TcCoe Idealize.SL
open Goal (row col)

noncomputable section

variable (m : (ℓ : Loc nD τ sig) → Buf (Elt Ideal) ℓ) (c : Dev nD)

/-- The launch's arguments. -/
def args : Goal.Args where
  logits n j := (m ((c.tc : Thread nD τ).loc main_arg0) : FVec Ideal S20000x91 .f32) (ix2 n j)
  regs n j := (m ((c.tc : Thread nD τ).loc main_arg1) : FVec Ideal S20000x364 .f32) (ix2 n j)
  props n j := (m ((c.tc : Thread nD τ).loc main_arg2) : FVec Ideal S20000x4 .f32) (ix2 n j)
  size q := (m ((c.tc : Thread nD τ).loc main_arg3) : IVec S2 32) (ix1 q)

/-- The table of scores the first kernel leaves. -/
theorem table (n : Fin 20000) (j : Fin 90) : (W1 m c (Proc.devRef .tc main_call0_v0) : FVec Ideal S20000x90 .f32) (ix2 n j)
    = Spec.mask (Spec.soft ((args m c).logits n) ⟨1 + j.val, by have := j.isLt; omega⟩) := by
  have e := (o0_eq m c).trans (soft_array (onRefs (V0 m)) c
    (fun i => Spec.mask (Spec.soft ((args m c).logits (i 0)) ⟨1 + (i 1).val, by have : (i 1).val < 90 := (i 1).isLt; omega⟩)) fun t q a h => by
      rw [KSoft.pay]
      exact congrArg (fun f => Spec.mask (Spec.soft f _)) (funext fun j => lblk_at (onRefs (V0 m)) c t q j h))
  exact congrFun e (ix2 n j)

theorem flat_at (x : FVec Ideal S20000x90 .f32) (s : Fin 1800000) :
    KHost.flat x (ix1 s) = x (ix2 ⟨s.val / 90, by have := s.isLt; omega⟩ ⟨s.val % 90, by omega⟩) := by
  unfold KHost.flat
  pointwise

theorem flat_value (s : Fin 1800000) : KHost.flat (W1 m c (Proc.devRef .tc main_call0_v0)) (ix1 s) = Goal.value (args m c) s :=
  (flat_at _ s).trans (table m c _ _)

/-- The buffers after the stretches between the two kernels. -/
abbrev U1 := StableHlo.after ((hostOps1 (F := Ideal)).take 3) (W1 m c)
abbrev U2 := StableHlo.after (((hostOps1 (F := Ideal)).drop 3).take 86) (U1 m c)
abbrev U3 := StableHlo.after (((hostOps1 (F := Ideal)).drop 89).take 5) (U2 m c)
abbrev U4 := StableHlo.after ((hostOps1 (F := Ideal)).drop 94) (U3 m c)

theorem W2_eq : W2 m c = U4 m c :=
  (V2_eq m c).symm.trans ((congrArg (StableHlo.after hostOps1) (V1_eq m c)).trans (KHost.split1 _))

theorem index_at (k : Fin 4096) : (U1 m c (Proc.devRef .tc main_call0_indices) : IVec S4096 32) (ix1 k) = BitVec.ofNat 32 (Goal.top (args m c) k).val := by
  unfold U1
  rw [KHost.indices]
  exact (Goal.top_greatest (args m c) (KHost.flat (W1 m c (Proc.devRef .tc main_call0_v0))) (flat_value m c) sliceFits_S1800000_S4096 k).2

theorem value_at (k : Fin 4096) : (U1 m c (Proc.devRef .tc main_call0_values) : FVec Ideal S4096 .f32) (ix1 k) = Goal.score (args m c) k := by
  unfold U1
  rw [KHost.values]
  exact (Goal.top_greatest (args m c) (KHost.flat (W1 m c (Proc.devRef .tc main_call0_v0))) (flat_value m c) sliceFits_S1800000_S4096 k).1

theorem arg1 : U1 m c (Proc.devRef .tc main_arg1) = m ((c.tc : Thread nD τ).loc main_arg1) :=
  (KHost.first_arg1 _).trans (W1_ne m c main_arg1 (by decide))
theorem arg2 : U1 m c (Proc.devRef .tc main_arg2) = m ((c.tc : Thread nD τ).loc main_arg2) :=
  (KHost.first_arg2 _).trans (W1_ne m c main_arg2 (by decide))
theorem arg3 : U1 m c (Proc.devRef .tc main_arg3) = m ((c.tc : Thread nD τ).loc main_arg3) :=
  (KHost.first_arg3 _).trans (W1_ne m c main_arg3 (by decide))

theorem prop_at (k : Fin 4096) (a : Fin 4) : (U2 m c (Proc.devRef .tc main_call0_v6) : FVec Ideal S4096x4 .f32) (ix2 k a)
    = (args m c).props (row (Goal.top (args m c) k)) a := by
  refine (KHost.proposal _ _ (index_at m c) k a).trans ?_
  rw [arg2]
  rfl

theorem label_at (k : Fin 4096) : (U2 m c (Proc.devRef .tc main_call0_v5) : IVec S4096 32) (ix1 k) = Goal.label (args m c) k := by
  refine (KHost.label _ _ (index_at m c) k).trans ?_
  rw [Nat.add_comm]
  rfl

theorem fold4 (x : FVec Ideal S20000x364 .f32) (s : Fin 20000) (t : Fin 91) (a : Fin 4) :
    shapeCast S20000x91x4 x shapeCasts_S20000x364_S20000x91x4 (ix3 s t a) = x (ix2 s ⟨t.val * 4 + a.val, by have := t.isLt; have := a.isLt; omega⟩) := by
  pointwise

theorem reg_at (k : Fin 4096) (a : Fin 4) : (U3 m c (Proc.devRef .tc main_call0_v23) : FVec Ideal S4096x4 .f32) (ix2 k a)
    = (args m c).regs (row (Goal.top (args m c) k)) ⟨(col (Goal.top (args m c) k)).val * 4 + a.val, by have := (col (Goal.top (args m c) k)).isLt; have := a.isLt; omega⟩ := by
  refine (KHost.regression _ k a (row (Goal.top (args m c) k)) (col (Goal.top (args m c) k)) (KHost.rowCol _ _ (index_at m c) k 0) ?_).trans ?_
  · refine (KHost.labelCol _ _ (index_at m c) k 0).trans ?_
    rw [Nat.add_comm]
    rfl
  · rw [KHost.regs, arg1]
    exact fold4 _ _ _ a

/-- The second kernel's operands. -/
theorem props_at (k : Fin 4096) (a : Fin 4) : (W2 m c (Proc.devRef .tc main_call0_v6) : FVec Ideal S4096x4 .f32) (ix2 k a)
    = (args m c).props (row (Goal.top (args m c) k)) a := by
  rw [W2_eq]
  unfold U4
  rw [KHost.last_v6]
  unfold U3
  rw [KHost.third_v6]
  exact prop_at m c k a

theorem propsT_at (k : Fin 4096) (a : Fin 4) : (W2 m c (Proc.devRef .tc main_call0_v30) : FVec Ideal S4x4096 .f32) (ix2 a k)
    = (args m c).props (row (Goal.top (args m c) k)) a := by
  rw [W2_eq]
  unfold U4
  rw [KHost.props4]
  unfold U3
  rw [KHost.third_v6]
  exact prop_at m c k a

theorem regs_at (k : Fin 4096) (a : Fin 4) : (W2 m c (Proc.devRef .tc main_call0_v23) : FVec Ideal S4096x4 .f32) (ix2 k a)
    = (args m c).regs (row (Goal.top (args m c) k)) ⟨(col (Goal.top (args m c) k)).val * 4 + a.val, by have := (col (Goal.top (args m c) k)).isLt; have := a.isLt; omega⟩ := by
  rw [W2_eq]
  unfold U4
  rw [KHost.last_v23]
  exact reg_at m c k a

theorem regsT_at (k : Fin 4096) (a : Fin 4) : (W2 m c (Proc.devRef .tc main_call0_v31) : FVec Ideal S4x4096 .f32) (ix2 a k)
    = (args m c).regs (row (Goal.top (args m c) k)) ⟨(col (Goal.top (args m c) k)).val * 4 + a.val, by have := (col (Goal.top (args m c) k)).isLt; have := a.isLt; omega⟩ := by
  rw [W2_eq]
  unfold U4
  rw [KHost.regs4]
  exact reg_at m c k a

theorem labelsC_at (k : Fin 4096) : (W2 m c (Proc.devRef .tc main_call0_v32) : FVec Ideal S4096x1 .f32) (ix2 k (0 : Fin 1))
    = FloatOps.sitofp (F := Ideal) .f32 (Goal.label (args m c) k) := by
  rw [W2_eq]
  unfold U4
  rw [KHost.labelC]
  unfold U3
  rw [KHost.labelF]
  rw [label_at]

theorem labelsR_at (k : Fin 4096) : (W2 m c (Proc.devRef .tc main_call0_v27) : FVec Ideal S2x4096 .f32) (ix2 (1 : Fin 2) k)
    = FloatOps.sitofp (F := Ideal) .f32 (Goal.label (args m c) k) := by
  rw [W2_eq]
  unfold U4
  rw [KHost.labelRow]
  unfold U3
  rw [KHost.labelR]
  rw [label_at]

theorem scores_at (k : Fin 4096) : (W2 m c (Proc.devRef .tc main_call0_v27) : FVec Ideal S2x4096 .f32) (ix2 (0 : Fin 2) k) = Goal.score (args m c) k := by
  rw [W2_eq]
  unfold U4
  rw [KHost.scoreRow]
  unfold U3
  rw [KHost.scoreR]
  unfold U2
  rw [KHost.mid_values]
  exact value_at m c k

theorem size_at (q : Fin 2) : (W2 m c (Proc.devRef .tc main_call0_v29) : FVec Ideal S1x2 .f32) (ix2 (0 : Fin 1) q)
    = FloatOps.sitofp (F := Ideal) .f32 ((args m c).size q) := by
  rw [W2_eq]
  unfold U4
  rw [KHost.sizes]
  unfold U3
  rw [KHost.third_arg3]
  unfold U2
  rw [KHost.mid_arg3]
  rw [arg3]
  rfl

theorem labels_at (k : Fin 4096) : (W2 m c (Proc.devRef .tc main_call0_v5) : IVec S4096 32) (ix1 k) = Goal.label (args m c) k := by
  rw [W2_eq]
  unfold U4
  rw [KHost.last_v5]
  unfold U3
  rw [KHost.third_v5]
  exact label_at m c k

end

end Cert.Proof.KRes
-- ==== Proof.Alg.KBox.lean ====
/-
  The second kernel's decoded boxes and overlaps, read at their indices: the row form and the column form are the same boxes.
-/
module

public import proofs.«01_k».proof.Proof.KI.Nms
public import proofs.«01_k».proof.Proof.Alg.Spec

@[expose] public section

set_option maxRecDepth 16384

namespace Cert.Proof.KBox

open Cert.KernelIdeal Cert.KernelIdeal.Gen Cert.Proof.KI
open Idealize.ShloMosaic

noncomputable section

variable (I : Ins Ideal)

/-- Box `n` as the rows give it, its label, and the box moved. -/
def box (n : Fin 4096) : Fin 4 → EReal := Spec.box (I.a6 (ix2 (0 : Fin 1) (1 : Fin 2))) (I.a6 (ix2 (0 : Fin 1) (0 : Fin 2))) (fun a => I.a0 (ix2 a n)) fun a => I.a1 (ix2 a n)
def label (n : Fin 4096) : EReal := I.a2 (ix2 (1 : Fin 2) n)
def moved (n : Fin 4096) : Fin 4 → EReal := Spec.move (label I n) (box I n)

theorem pt2_at (A : S1x2.Idx → Elt Ideal .f32) (k : Fin 2) : (Ins.pt2 A k : FVec Ideal S1x1 .f32) (ix2 (0 : Fin 1) (0 : Fin 1)) = A (ix2 (0 : Fin 1) k) := by
  unfold Ins.pt2
  congr 1
  funext a
  match a with
  | ⟨0, _⟩ => rfl
  | ⟨1, _⟩ => rfl

theorem w_at : I.w = I.a6 (ix2 (0 : Fin 1) (1 : Fin 2)) := by
  unfold Ins.w k1_pay4
  pointwise
  rw [pt2_at]

theorem h_at : I.h = I.a6 (ix2 (0 : Fin 1) (0 : Fin 2)) := by
  unfold Ins.h k1_pay5
  pointwise
  rw [pt2_at]

theorem row4_at (A : S4x4096.Idx → Elt Ideal .f32) (k : Fin 4) (n : Fin 4096) : (Ins.row4 A k : FVec Ideal S1x4096 .f32) (ix2 (0 : Fin 1) n) = A (ix2 k n) := by
  unfold Ins.row4
  congr 1
  funext a
  match a with
  | ⟨0, _⟩ => rfl
  | ⟨1, _⟩ => rfl

theorem row2_at (A : S2x4096.Idx → Elt Ideal .f32) (k : Fin 2) (n : Fin 4096) : (Ins.row2 A k : FVec Ideal S1x4096 .f32) (ix2 (0 : Fin 1) n) = A (ix2 k n) := by
  unfold Ins.row2
  congr 1
  funext a
  match a with
  | ⟨0, _⟩ => rfl
  | ⟨1, _⟩ => rfl

theorem col4_at (A : S4096x4.Idx → Elt Ideal .f32) (k : Fin 4) (n : Fin 4096) : (Ins.col4 A k : FVec Ideal S4096x1 .f32) (ix2 n (0 : Fin 1)) = A (ix2 n k) := by
  unfold Ins.col4
  congr 1
  funext a
  match a with
  | ⟨0, _⟩ => rfl
  | ⟨1, _⟩ => rfl

/-! ## The row form -/

theorem b0_at (n : Fin 4096) : I.b0 (ix2 (0 : Fin 1) n) = box I n 0 := by
  simp only [Ins.b0, k1_pay20, k1_pay6, k1_pay7, k1_pay8, k1_pay9, k1_pay10, k1_pay11, k1_pay12, k1_pay13, k1_pay14, k1_pay15, k1_pay16, k1_pay17, k1_pay18, k1_pay19]
  pointwise
  simp only [row4_at, w_at, h_at]
  rfl

theorem b1_at (n : Fin 4096) : I.b1 (ix2 (0 : Fin 1) n) = box I n 1 := by
  simp only [Ins.b1, k1_pay21, k1_pay6, k1_pay7, k1_pay8, k1_pay9, k1_pay10, k1_pay11, k1_pay12, k1_pay13, k1_pay14, k1_pay15, k1_pay16, k1_pay17, k1_pay18, k1_pay19]
  pointwise
  simp only [row4_at, w_at, h_at]
  rfl

theorem b2_at (n : Fin 4096) : I.b2 (ix2 (0 : Fin 1) n) = box I n 2 := by
  simp only [Ins.b2, k1_pay22, k1_pay6, k1_pay7, k1_pay8, k1_pay9, k1_pay10, k1_pay11, k1_pay12, k1_pay13, k1_pay14, k1_pay15, k1_pay16, k1_pay17, k1_pay18, k1_pay19]
  pointwise
  simp only [row4_at, w_at, h_at]
  rfl

theorem b3_at (n : Fin 4096) : I.b3 (ix2 (0 : Fin 1) n) = box I n 3 := by
  simp only [Ins.b3, k1_pay23, k1_pay6, k1_pay7, k1_pay8, k1_pay9, k1_pay10, k1_pay11, k1_pay12, k1_pay13, k1_pay14, k1_pay15, k1_pay16, k1_pay17, k1_pay18, k1_pay19]
  pointwise
  simp only [row4_at, w_at, h_at]
  rfl

theorem sc_at (n : Fin 4096) : I.sc (ix2 (0 : Fin 1) n) = I.a2 (ix2 (0 : Fin 2) n) := by
  unfold Ins.sc k1_pay24
  pointwise
  rw [row2_at]

theorem x1_at (n : Fin 4096) : I.x1 (ix2 (0 : Fin 1) n) = moved I n 0 := by
  unfold Ins.x1 k1_pay26 k1_pay25
  pointwise
  rw [b0_at, row2_at]
  rfl

theorem y1_at (n : Fin 4096) : I.y1 (ix2 (0 : Fin 1) n) = moved I n 1 := by
  unfold Ins.y1 k1_pay27 k1_pay25
  pointwise
  rw [b1_at, row2_at]
  rfl

theorem x2_at (n : Fin 4096) : I.x2 (ix2 (0 : Fin 1) n) = moved I n 2 := by
  unfold Ins.x2 k1_pay28 k1_pay25
  pointwise
  rw [b2_at, row2_at]
  rfl

theorem y2_at (n : Fin 4096) : I.y2 (ix2 (0 : Fin 1) n) = moved I n 3 := by
  unfold Ins.y2 k1_pay29 k1_pay25
  pointwise
  rw [b3_at, row2_at]
  rfl

theorem ar_at (n : Fin 4096) : I.ar (ix2 (0 : Fin 1) n) = Spec.area (moved I n) := by
  unfold Ins.ar k1_pay30 k1_pay26 k1_pay27 k1_pay28 k1_pay29 k1_pay25
  pointwise
  rw [b0_at, b1_at, b2_at, b3_at, row2_at]
  rfl

/-! ## The column form -/

section Cols
variable (h0 : ∀ n a, I.a3 (ix2 n a) = I.a0 (ix2 a n)) (h1 : ∀ n a, I.a4 (ix2 n a) = I.a1 (ix2 a n)) (h2 : ∀ n, I.a5 (ix2 n (0 : Fin 1)) = I.a2 (ix2 (1 : Fin 2) n))
include h0 h1 h2

theorem c0_at (n : Fin 4096) : I.c0 (ix2 n (0 : Fin 1)) = moved I n 0 := by
  simp only [Ins.c0, k1_pay52, Ins.v94, Ins.v96, Ins.v102, Ins.v104, Ins.v106, Ins.v108, Ins.v109, Ins.v110, Ins.v132, Ins.v136, Ins.v143, Ins.v150, Ins.v155, Ins.v156, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51]
  pointwise
  simp only [col4_at, w_at, h_at, h0, h1, h2]
  rfl

theorem c1_at (n : Fin 4096) : I.c1 (ix2 n (0 : Fin 1)) = moved I n 1 := by
  simp only [Ins.c1, k1_pay53, Ins.v94, Ins.v96, Ins.v102, Ins.v104, Ins.v106, Ins.v108, Ins.v109, Ins.v110, Ins.v132, Ins.v136, Ins.v143, Ins.v150, Ins.v155, Ins.v156, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51]
  pointwise
  simp only [col4_at, w_at, h_at, h0, h1, h2]
  rfl

theorem c2_at (n : Fin 4096) : I.c2 (ix2 n (0 : Fin 1)) = moved I n 2 := by
  simp only [Ins.c2, k1_pay54, Ins.v94, Ins.v96, Ins.v102, Ins.v104, Ins.v106, Ins.v108, Ins.v109, Ins.v110, Ins.v132, Ins.v136, Ins.v143, Ins.v150, Ins.v155, Ins.v156, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51]
  pointwise
  simp only [col4_at, w_at, h_at, h0, h1, h2]
  rfl

theorem c3_at (n : Fin 4096) : I.c3 (ix2 n (0 : Fin 1)) = moved I n 3 := by
  simp only [Ins.c3, k1_pay55, Ins.v94, Ins.v96, Ins.v102, Ins.v104, Ins.v106, Ins.v108, Ins.v109, Ins.v110, Ins.v132, Ins.v136, Ins.v143, Ins.v150, Ins.v155, Ins.v156, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51]
  pointwise
  simp only [col4_at, w_at, h_at, h0, h1, h2]
  rfl

omit h0 h1 h2 in
theorem c4_eq (n : Fin 4096) : I.c4 (ix2 n (0 : Fin 1)) = (I.c2 (ix2 n (0 : Fin 1)) - I.c0 (ix2 n (0 : Fin 1)) : EReal) * (I.c3 (ix2 n (0 : Fin 1)) - I.c1 (ix2 n (0 : Fin 1)) : EReal) := by
  unfold Ins.c4 Ins.c0 Ins.c1 Ins.c2 Ins.c3 k1_pay56 k1_pay52 k1_pay53 k1_pay54 k1_pay55
  pointwise

theorem c4_at (n : Fin 4096) : I.c4 (ix2 n (0 : Fin 1)) = Spec.area (moved I n) := by
  rw [c4_eq, c0_at I h0 h1 h2, c1_at I h0 h1 h2, c2_at I h0 h1 h2, c3_at I h0 h1 h2]
  rfl

omit h0 h1 h2 in
theorem seg_at (v : FVec Ideal S4096x1 .f32) (j : ℕ) (q : Fin 128) (hi : 128 * j + q.val < 4096) :
    (Ins.seg v j : FVec Ideal S128x1 .f32) (ix2 q (0 : Fin 1)) = v (ix2 ⟨128 * j + q.val, hi⟩ (0 : Fin 1)) := by
  unfold Ins.seg
  congr 1
  funext a
  match a with
  | ⟨0, _⟩ => exact Fin.ext (Nat.mod_eq_of_lt hi)
  | ⟨1, _⟩ => rfl

/-- A strip's entry is the overlap of its row's box with its column's. -/
theorem strip_at (j : ℕ) (q : Fin 128) (hi : 128 * j + q.val < 4096) (n : Fin 4096) :
    (I.strip j : FVec Ideal S128x4096 .f32) (ix2 q n) = Spec.iou (moved I ⟨128 * j + q.val, hi⟩) (moved I n) := by
  unfold Ins.strip k1_pay58
  pointwise
  rw [seg_at _ _ _ hi, seg_at _ _ _ hi, seg_at _ _ _ hi, seg_at _ _ _ hi, seg_at _ _ _ hi,
    c0_at I h0 h1 h2, c1_at I h0 h1 h2, c2_at I h0 h1 h2, c3_at I h0 h1 h2, c4_at I h0 h1 h2, x1_at, x2_at, y1_at, y2_at, ar_at]
  unfold Spec.iou Spec.ratio Spec.side
  simp only [max_comm (0 : EReal)]

end Cols

end

end Cert.Proof.KBox
-- ==== Proof.Alg.KRes.lean ====
/-
  The kernel program's results.
-/
module

public import proofs.«01_k».proof.Proof.Alg.KRows
public import proofs.«01_k».proof.Proof.Alg.KBox

@[expose] public section

set_option maxRecDepth 16384

namespace Cert.Proof.KRes

open Cert.KernelIdeal Cert.KernelIdeal.Gen Cert.Proof.KI
open Idealize.ShloMosaic Idealize.ShloMosaic.TcCoe Idealize.SL
open scoped Classical

noncomputable section

variable (m : (ℓ : Loc nD τ sig) → Buf (Elt Ideal) ℓ) (c : Dev nD)

/-- The second kernel's operands. -/
def ins : Ins Ideal :=
  ⟨W2 m c (Proc.devRef .tc main_call0_v30), W2 m c (Proc.devRef .tc main_call0_v31), W2 m c (Proc.devRef .tc main_call0_v27),
    W2 m c (Proc.devRef .tc main_call0_v6), W2 m c (Proc.devRef .tc main_call0_v23), W2 m c (Proc.devRef .tc main_call0_v32),
    W2 m c (Proc.devRef .tc main_call0_v29)⟩

theorem insV_ins : insV (onRefs (W2 m)) c t1_0 = ins m c := insV_eq (onRefs (W2 m)) c

theorem box_cand (n : Fin 4096) : KBox.box (ins m c) n = Goal.cand (args m c) n := by
  have e := congr (congr (congrArg₂ Spec.box (size_at m c 1) (size_at m c 0)) (funext (propsT_at m c n))) (funext (regsT_at m c n))
  exact e

theorem moved_moved (n : Fin 4096) : KBox.moved (ins m c) n = Goal.moved (args m c) n :=
  congrArg₂ Spec.move (labelsR_at m c n) (box_cand m c n)

theorem strip_over (j : ℕ) (q : Fin 128) (hi : 128 * j + q.val < 4096) (n : Fin 4096) :
    ((ins m c).strip j : FVec Ideal S128x4096 .f32) (ix2 q n) = Goal.over (args m c) ⟨128 * j + q.val, hi⟩ n :=
  (KBox.strip_at (ins m c) (fun n a => (props_at m c n a).trans (propsT_at m c n a).symm) (fun n a => (regs_at m c n a).trans (regsT_at m c n a).symm)
    (fun n => (labelsC_at m c n).trans (labelsR_at m c n).symm) j q hi n).trans (congrArg₂ Spec.iou (moved_moved m c _) (moved_moved m c n))

theorem score_row (n : Fin 4096) : (ins m c).sc (ix2 (0 : Fin 1) n) = Goal.score (args m c) n :=
  (KBox.sc_at (ins m c) n).trans (scores_at m c n)

theorem pay_first (x : FVec Ideal S1x4096 .f32) (n : Fin 4096) :
    k1_pay1 (F := Ideal) (k1_pay57 x) (Scalar.ofBits .f32 0x3F800000#32) (Scalar.ofBits .f32 0x00000000#32) (ix2 (0 : Fin 1) n)
      = if 0 < x (ix2 (0 : Fin 1) n) then 1 else 0 := by
  unfold k1_pay1 k1_pay57
  pointwise

theorem pay_last (x y : FVec Ideal S1x4096 .f32) (n : Fin 4096) :
    k1_pay2 (F := Ideal) x y (ix2 (0 : Fin 1) n)
      = if 0 < y (ix2 (0 : Fin 1) n) then x (ix2 (0 : Fin 1) n) else Ideal.ofBits .f32 0xBF800000#32 := by
  unfold k1_pay2
  pointwise

theorem keep_first : KLoop.Is (ins m c).keep0 (Goal.keep (args m c) 0) := fun n => by
  refine (pay_first (ins m c).sc n).trans ?_
  rw [score_row]
  unfold KLoop.ind
  exact if_congr (Goal.fine_iff _ n) rfl rfl

/-- The scores the second kernel leaves are those kept after some number of turns, all or enough. -/
theorem kept_final : ∃ P ≤ 4096, (P = 4096 ∨ 100 ≤ (Finset.univ.filter fun p : Fin 4096 => p.val < P ∧ Goal.keep (args m c) P p).card)
    ∧ ∀ n : Fin 4096, (ins m c).kept (ix2 (0 : Fin 1) n) = Goal.final (args m c) P n := by
  obtain ⟨P, hP, hk, h⟩ := KLoop.loop_keep (Goal.over (args m c)) (Goal.fine (args m c)) (ins m c).strip (strip_over m c) 32 0 rfl
    (ins m c).keep0 0 (keep_first m c) (.inl (by exact_mod_cast (by norm_num : (0 : ℝ) < 100)))
  refine ⟨P, hP, h, fun n => (pay_last _ _ n).trans ?_⟩
  have hn : (ins m c).keepN (ix2 (0 : Fin 1) n) = KLoop.ind (Goal.keep (args m c) P) n := by
    refine Eq.trans ?_ (hk n)
    unfold Ins.keepN
    rw [show (Scalar.ofBits .f32 0x00000000#32 : Ideal .f32) = (0 : EReal) from Ideal.ofBits_zero_f32]
  rw [hn, score_row]
  exact if_congr (KLoop.ind_pos _ n) rfl rfl

theorem boxes_at (n : Fin 4096) (a : Fin 4) : (ins m c).boxes (ix2 a n) = Goal.cand (args m c) n a := by
  rw [← box_cand]
  have e : (Fin.cases (0 : Fin 1) (fun a => Fin.cases n (fun b => b.elim0) a) : (a : Fin 2) → Fin (S1x4096.size a)) = ix2 (0 : Fin 1) n := by
    funext b
    match b with
    | ⟨0, _⟩ => rfl
    | ⟨1, _⟩ => rfl
  match a with
  | ⟨0, _⟩ => exact (congrArg (ins m c).b0 e).trans (KBox.b0_at _ n)
  | ⟨1, _⟩ => exact (congrArg (ins m c).b1 e).trans (KBox.b1_at _ n)
  | ⟨2, _⟩ => exact (congrArg (ins m c).b2 e).trans (KBox.b2_at _ n)
  | ⟨3, _⟩ => exact (congrArg (ins m c).b3 e).trans (KBox.b3_at _ n)

theorem row_box (n : Fin 4096) (a : Fin 4) : (W3 m c (Proc.devRef .tc main_call0_v33_0) : FVec Ideal S4x4096 .f32) (ix2 a n) = Goal.cand (args m c) n a := by
  have e := (o7_eq m c).trans ((boxes_array (onRefs (W2 m)) c).trans (congrArg Ins.boxes (insV_ins m c)))
  exact (congrFun e (ix2 a n)).trans (boxes_at m c n a)

theorem row_kept (n : Fin 4096) : (W3 m c (Proc.devRef .tc main_call0_v33_1) : FVec Ideal S1x4096 .f32) (ix2 (0 : Fin 1) n) = (ins m c).kept (ix2 (0 : Fin 1) n) := by
  have e := (o8_eq m c).trans ((kept_array (onRefs (W2 m)) c).trans (congrArg Ins.kept (insV_ins m c)))
  exact congrFun e (ix2 (0 : Fin 1) n)

theorem row_label (n : Fin 4096) : (W3 m c (Proc.devRef .tc main_call0_v5) : IVec S4096 32) (ix1 n) = Goal.label (args m c) n := by
  rw [W3_ne m c main_call0_v5 (by decide) (by decide)]
  exact labels_at m c n

theorem unrow (x : FVec Ideal S1x4096 .f32) (n : Fin 4096) : shapeCast S4096 x shapeCasts_S1x4096_S4096 (ix1 n) = x (ix2 (0 : Fin 1) n) := by
  pointwise

theorem V4_W3 : V4 m (outs m) c = StableHlo.after ((hostOps2 (F := Ideal)).drop 3) (StableHlo.after ((hostOps2 (F := Ideal)).take 3) (W3 m c)) :=
  (congrArg (StableHlo.after hostOps2) (V3_eq m c)).trans (KHost.split2 _)

/-- The results: the scores, boxes and labels of what is picked. -/
theorem results (r : Fin 100) :
    (V4 m (outs m) c (Proc.devRef .tc main_v0_1) : FVec Ideal S100 .f32) (ix1 r) = Goal.final (args m c) 4096 (Goal.pick (args m c) 4096 r)
      ∧ (∀ a : Fin 4, (V4 m (outs m) c (Proc.devRef .tc main_v0_0) : FVec Ideal S100x4 .f32) (ix2 r a) = Goal.cand (args m c) (Goal.pick (args m c) 4096 r) a)
      ∧ (V4 m (outs m) c (Proc.devRef .tc main_v0_2) : IVec S100 32) (ix1 r) = Goal.label (args m c) (Goal.pick (args m c) 4096 r) := by
  obtain ⟨P, hP, h, hk⟩ := kept_final m c
  have hx : ∀ s : Fin 4096, shapeCast S4096 (W3 m c (Proc.devRef .tc main_call0_v33_1) : FVec Ideal S1x4096 .f32) shapeCasts_S1x4096_S4096 (.ofFin s)
      = Goal.final (args m c) P s := fun s => (unrow _ s).trans ((row_kept m c s).trans (hk s))
  have hi : ∀ k : Fin 100, (StableHlo.after ((hostOps2 (F := Ideal)).take 3) (W3 m c) (Proc.devRef .tc main_call0_indices_8) : IVec S100 32) (ix1 k)
      = BitVec.ofNat 32 (Goal.pick (args m c) P k).val := fun k => by
    rw [KHost.outIndices]
    exact (Goal.pick_greatest (args m c) P _ hx sliceFits_S4096_S100 k).2
  obtain ⟨e, e'⟩ := Goal.stop (args m c) P hP h r
  rw [V4_W3, ← e', ← e]
  refine ⟨?_, fun a => ?_, ?_⟩
  · rw [KHost.post_values, KHost.outValues]
    exact (Goal.pick_greatest (args m c) P _ hx sliceFits_S4096_S100 r).1
  · refine (KHost.outBoxes _ (Goal.pick (args m c) P) hi r a).trans ?_
    rw [KHost.pre_boxes]
    exact row_box m c _ a
  · refine (KHost.outLabels _ (Goal.pick (args m c) P) hi r).trans ?_
    rw [KHost.pre_v5]
    exact row_label m c _

end

end Cert.Proof.KRes
-- ==== Proof.Alg.RHost.lean ====
/-
  The reference's host operations, read at their indices: the decoded boxes, the masked scores, what is taken at the
  positions of the 4096 greatest, the overlaps, and the results taken from the final selection.
-/
module

public import proofs.«01_k».proof.Proof.Gen.ReferenceIdeal.Run
public import proofs.«01_k».proof.Proof.Alg.Take
public import proofs.«01_k».proof.Proof.Alg.Spec
public import Idealize.ShloMosaic.Lib.StableHlo.ReadAt
public import Idealize.ShloMosaic.Lib.Pointwise

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

abbrev Vals := Valuation τ sig (Elt Ideal)
abbrev Ops := List (HloOp τ sig (Elt Ideal))

/-- Decoding. -/
abbrev c1 : Ops := hostOps0.take 89
/-- The decoded boxes, gathered. -/
abbrev c2 : Ops := (hostOps0.drop 89).take 1
/-- Clipping. -/
abbrev c3 : Ops := hostOps0.drop 90 ++ (hostOps0_1 ++ (hostOps0_2 ++ (hostOps0_3 ++ (hostOps0_4 ++ (hostOps0_5 ++ (hostOps0_6 ++ (hostOps0_7 ++ hostOps0_8.take 4)))))))
/-- The clipped boxes, gathered. -/
abbrev c4 : Ops := (hostOps0_8.drop 4).take 1
/-- Softmax and mask. -/
abbrev c5 : Ops := hostOps0_8.drop 5 ++ hostOps0_9
/-- The greatest scores. -/
abbrev c6 : Ops := hostOps0_10
/-- What is taken at them. -/
abbrev c7 : Ops := hostOps0_11 ++ (hostOps0_12 ++ (hostOps0_13 ++ hostOps0_14))
/-- The overlaps and the loop's first contents. -/
abbrev c8 : Ops := hostOps0_15 ++ (hostOps0_16 ++ hostOps0_17)

theorem split (V : Vals) : afterL preI V = after c8 (after c7 (after c6 (after c5 (after c4 (after c3 (after c2 (after c1 V))))))) := by
  simp only [afterL_cons, afterL_nil, ← StableHlo.after_append]
  rfl

section Decode
variable (V : Vals)

theorem dec0 (n : Fin 20000) (c : Fin 91) : (StableHlo.after c1 V (Proc.devRef .tc main_v73) : FVec Ideal S20000x91x1 .f32) (ix3 n c (0 : Fin 1))
    = Spec.centre ((V (Proc.devRef .tc main_arg2) : FVec Ideal S20000x4 .f32) (ix2 n 0)) ((V (Proc.devRef .tc main_arg2) : FVec Ideal S20000x4 .f32) (ix2 n 2)) ((V (Proc.devRef .tc main_arg1) : FVec Ideal S20000x364 .f32) (ix2 n ⟨c.val * 4 + 0, by have := c.isLt; omega⟩)) - Spec.half ((V (Proc.devRef .tc main_arg2) : FVec Ideal S20000x4 .f32) (ix2 n 0)) ((V (Proc.devRef .tc main_arg2) : FVec Ideal S20000x4 .f32) (ix2 n 2)) ((V (Proc.devRef .tc main_arg1) : FVec Ideal S20000x364 .f32) (ix2 n ⟨c.val * 4 + 2, by have := c.isLt; omega⟩)) := by
  after_reads_simp
  pointwise
  rfl

theorem dec1 (n : Fin 20000) (c : Fin 91) : (StableHlo.after c1 V (Proc.devRef .tc main_v74) : FVec Ideal S20000x91x1 .f32) (ix3 n c (0 : Fin 1))
    = Spec.centre ((V (Proc.devRef .tc main_arg2) : FVec Ideal S20000x4 .f32) (ix2 n 1)) ((V (Proc.devRef .tc main_arg2) : FVec Ideal S20000x4 .f32) (ix2 n 3)) ((V (Proc.devRef .tc main_arg1) : FVec Ideal S20000x364 .f32) (ix2 n ⟨c.val * 4 + 1, by have := c.isLt; omega⟩)) - Spec.half ((V (Proc.devRef .tc main_arg2) : FVec Ideal S20000x4 .f32) (ix2 n 1)) ((V (Proc.devRef .tc main_arg2) : FVec Ideal S20000x4 .f32) (ix2 n 3)) ((V (Proc.devRef .tc main_arg1) : FVec Ideal S20000x364 .f32) (ix2 n ⟨c.val * 4 + 3, by have := c.isLt; omega⟩)) := by
  after_reads_simp
  pointwise
  rfl

theorem dec2 (n : Fin 20000) (c : Fin 91) : (StableHlo.after c1 V (Proc.devRef .tc main_v75) : FVec Ideal S20000x91x1 .f32) (ix3 n c (0 : Fin 1))
    = Spec.centre ((V (Proc.devRef .tc main_arg2) : FVec Ideal S20000x4 .f32) (ix2 n 0)) ((V (Proc.devRef .tc main_arg2) : FVec Ideal S20000x4 .f32) (ix2 n 2)) ((V (Proc.devRef .tc main_arg1) : FVec Ideal S20000x364 .f32) (ix2 n ⟨c.val * 4 + 0, by have := c.isLt; omega⟩)) + Spec.half ((V (Proc.devRef .tc main_arg2) : FVec Ideal S20000x4 .f32) (ix2 n 0)) ((V (Proc.devRef .tc main_arg2) : FVec Ideal S20000x4 .f32) (ix2 n 2)) ((V (Proc.devRef .tc main_arg1) : FVec Ideal S20000x364 .f32) (ix2 n ⟨c.val * 4 + 2, by have := c.isLt; omega⟩)) := by
  after_reads_simp
  pointwise
  rfl

theorem dec3 (n : Fin 20000) (c : Fin 91) : (StableHlo.after c1 V (Proc.devRef .tc main_v76) : FVec Ideal S20000x91x1 .f32) (ix3 n c (0 : Fin 1))
    = Spec.centre ((V (Proc.devRef .tc main_arg2) : FVec Ideal S20000x4 .f32) (ix2 n 1)) ((V (Proc.devRef .tc main_arg2) : FVec Ideal S20000x4 .f32) (ix2 n 3)) ((V (Proc.devRef .tc main_arg1) : FVec Ideal S20000x364 .f32) (ix2 n ⟨c.val * 4 + 1, by have := c.isLt; omega⟩)) + Spec.half ((V (Proc.devRef .tc main_arg2) : FVec Ideal S20000x4 .f32) (ix2 n 1)) ((V (Proc.devRef .tc main_arg2) : FVec Ideal S20000x4 .f32) (ix2 n 3)) ((V (Proc.devRef .tc main_arg1) : FVec Ideal S20000x364 .f32) (ix2 n ⟨c.val * 4 + 3, by have := c.isLt; omega⟩)) := by
  after_reads_simp
  pointwise
  rfl

theorem c1_arg0 : StableHlo.after c1 V (Proc.devRef .tc main_arg0) = V (Proc.devRef .tc main_arg0) := by
  after_reads_simp

theorem c2_arg0 : StableHlo.after c2 V (Proc.devRef .tc main_arg0) = V (Proc.devRef .tc main_arg0) := by
  after_reads_simp

theorem c3_arg0 : StableHlo.after c3 V (Proc.devRef .tc main_arg0) = V (Proc.devRef .tc main_arg0) := by
  after_reads_simp

theorem c4_arg0 : StableHlo.after c4 V (Proc.devRef .tc main_arg0) = V (Proc.devRef .tc main_arg0) := by
  after_reads_simp

theorem c1_arg3 : StableHlo.after c1 V (Proc.devRef .tc main_arg3) = V (Proc.devRef .tc main_arg3) := by
  after_reads_simp

theorem c2_arg3 : StableHlo.after c2 V (Proc.devRef .tc main_arg3) = V (Proc.devRef .tc main_arg3) := by
  after_reads_simp

theorem c2_cat : (StableHlo.after c2 V (Proc.devRef .tc main_v77) : FVec Ideal S20000x91x4 .f32) = concatenate S20000x91x4 2 [⟨S20000x91x1, (V (Proc.devRef .tc main_v73) : FVec Ideal S20000x91x1 .f32)⟩, ⟨S20000x91x1, (V (Proc.devRef .tc main_v74) : FVec Ideal S20000x91x1 .f32)⟩, ⟨S20000x91x1, (V (Proc.devRef .tc main_v75) : FVec Ideal S20000x91x1 .f32)⟩, ⟨S20000x91x1, (V (Proc.devRef .tc main_v76) : FVec Ideal S20000x91x1 .f32)⟩]
    concatenates_S20000x91x1_S20000x91x1_S20000x91x1_S20000x91x1_S20000x91x4_d2 := rfl

theorem c2_at0 (n : Fin 20000) (c : Fin 91) : (StableHlo.after c2 V (Proc.devRef .tc main_v77) : FVec Ideal S20000x91x4 .f32) (ix3 n c (0 : Fin 4)) = (V (Proc.devRef .tc main_v73) : FVec Ideal S20000x91x1 .f32) (ix3 n c (0 : Fin 1)) := by
  rw [c2_cat]
  pointwise

theorem c2_at1 (n : Fin 20000) (c : Fin 91) : (StableHlo.after c2 V (Proc.devRef .tc main_v77) : FVec Ideal S20000x91x4 .f32) (ix3 n c (1 : Fin 4)) = (V (Proc.devRef .tc main_v74) : FVec Ideal S20000x91x1 .f32) (ix3 n c (0 : Fin 1)) := by
  rw [c2_cat]
  pointwise

theorem c2_at2 (n : Fin 20000) (c : Fin 91) : (StableHlo.after c2 V (Proc.devRef .tc main_v77) : FVec Ideal S20000x91x4 .f32) (ix3 n c (2 : Fin 4)) = (V (Proc.devRef .tc main_v75) : FVec Ideal S20000x91x1 .f32) (ix3 n c (0 : Fin 1)) := by
  rw [c2_cat]
  pointwise

theorem c2_at3 (n : Fin 20000) (c : Fin 91) : (StableHlo.after c2 V (Proc.devRef .tc main_v77) : FVec Ideal S20000x91x4 .f32) (ix3 n c (3 : Fin 4)) = (V (Proc.devRef .tc main_v76) : FVec Ideal S20000x91x1 .f32) (ix3 n c (0 : Fin 1)) := by
  rw [c2_cat]
  pointwise

theorem c4_cat : (StableHlo.after c4 V (Proc.devRef .tc main_v100) : FVec Ideal S20000x91x4 .f32) = concatenate S20000x91x4 2 [⟨S20000x91x1, (V (Proc.devRef .tc main_v96) : FVec Ideal S20000x91x1 .f32)⟩, ⟨S20000x91x1, (V (Proc.devRef .tc main_v97) : FVec Ideal S20000x91x1 .f32)⟩, ⟨S20000x91x1, (V (Proc.devRef .tc main_v98) : FVec Ideal S20000x91x1 .f32)⟩, ⟨S20000x91x1, (V (Proc.devRef .tc main_v99) : FVec Ideal S20000x91x1 .f32)⟩]
    concatenates_S20000x91x1_S20000x91x1_S20000x91x1_S20000x91x1_S20000x91x4_d2 := rfl

theorem c4_at0 (n : Fin 20000) (c : Fin 91) : (StableHlo.after c4 V (Proc.devRef .tc main_v100) : FVec Ideal S20000x91x4 .f32) (ix3 n c (0 : Fin 4)) = (V (Proc.devRef .tc main_v96) : FVec Ideal S20000x91x1 .f32) (ix3 n c (0 : Fin 1)) := by
  rw [c4_cat]
  pointwise

theorem c4_at1 (n : Fin 20000) (c : Fin 91) : (StableHlo.after c4 V (Proc.devRef .tc main_v100) : FVec Ideal S20000x91x4 .f32) (ix3 n c (1 : Fin 4)) = (V (Proc.devRef .tc main_v97) : FVec Ideal S20000x91x1 .f32) (ix3 n c (0 : Fin 1)) := by
  rw [c4_cat]
  pointwise

theorem c4_at2 (n : Fin 20000) (c : Fin 91) : (StableHlo.after c4 V (Proc.devRef .tc main_v100) : FVec Ideal S20000x91x4 .f32) (ix3 n c (2 : Fin 4)) = (V (Proc.devRef .tc main_v98) : FVec Ideal S20000x91x1 .f32) (ix3 n c (0 : Fin 1)) := by
  rw [c4_cat]
  pointwise

theorem c4_at3 (n : Fin 20000) (c : Fin 91) : (StableHlo.after c4 V (Proc.devRef .tc main_v100) : FVec Ideal S20000x91x4 .f32) (ix3 n c (3 : Fin 4)) = (V (Proc.devRef .tc main_v99) : FVec Ideal S20000x91x1 .f32) (ix3 n c (0 : Fin 1)) := by
  rw [c4_cat]
  pointwise

theorem clip0 (n : Fin 20000) (c : Fin 91) : (StableHlo.after c3 V (Proc.devRef .tc main_v96) : FVec Ideal S20000x91x1 .f32) (ix3 n c (0 : Fin 1))
    = Spec.clip (FloatOps.sitofp (F := Ideal) .f32 ((V (Proc.devRef .tc main_arg3) : IVec S2 32) (ix1 1))) ((V (Proc.devRef .tc main_v77) : FVec Ideal S20000x91x4 .f32) (ix3 n c (0 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

theorem clip1 (n : Fin 20000) (c : Fin 91) : (StableHlo.after c3 V (Proc.devRef .tc main_v97) : FVec Ideal S20000x91x1 .f32) (ix3 n c (0 : Fin 1))
    = Spec.clip (FloatOps.sitofp (F := Ideal) .f32 ((V (Proc.devRef .tc main_arg3) : IVec S2 32) (ix1 0))) ((V (Proc.devRef .tc main_v77) : FVec Ideal S20000x91x4 .f32) (ix3 n c (1 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

theorem clip2 (n : Fin 20000) (c : Fin 91) : (StableHlo.after c3 V (Proc.devRef .tc main_v98) : FVec Ideal S20000x91x1 .f32) (ix3 n c (0 : Fin 1))
    = Spec.clip (FloatOps.sitofp (F := Ideal) .f32 ((V (Proc.devRef .tc main_arg3) : IVec S2 32) (ix1 1))) ((V (Proc.devRef .tc main_v77) : FVec Ideal S20000x91x4 .f32) (ix3 n c (2 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

theorem clip3 (n : Fin 20000) (c : Fin 91) : (StableHlo.after c3 V (Proc.devRef .tc main_v99) : FVec Ideal S20000x91x1 .f32) (ix3 n c (0 : Fin 1))
    = Spec.clip (FloatOps.sitofp (F := Ideal) .f32 ((V (Proc.devRef .tc main_arg3) : IVec S2 32) (ix1 0))) ((V (Proc.devRef .tc main_v77) : FVec Ideal S20000x91x4 .f32) (ix3 n c (3 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

end Decode

end

end Cert.Proof.RHost
-- ==== Proof.Alg.RFlat.lean ====
/-
  The reference's scores, boxes and labels over the flat classes.
-/
module

public import proofs.«01_k».proof.Proof.Alg.RHost

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Flat
variable (V : Vals)

/-- Softmax, over the classes but the first. -/
abbrev e1 : Ops := (hostOps0_8.drop 5).take 22
/-- Scores, boxes and labels over the flat classes. -/
abbrev e2 : Ops := hostOps0_8.drop 27 ++ hostOps0_9

theorem split5 : after c5 V = after e2 (after e1 V) := by
  simp only [← StableHlo.after_append]
  rfl

theorem shifted (n : Fin 20000) (c : Fin 90) (a : Fin 4) : (StableHlo.after e1 V (Proc.devRef .tc main_v112) : FVec Ideal S20000x90x4 .f32) (ix3 n c a)
    = (V (Proc.devRef .tc main_v100) : FVec Ideal S20000x91x4 .f32) (ix3 n ⟨1 + c.val, by have := c.isLt; omega⟩ a) := by
  after_reads_simp
  pointwise

theorem labels (n : Fin 20000) (c : Fin 90) : (StableHlo.after e1 V (Proc.devRef .tc main_v118) : IVec S20000x90 32) (ix2 n c) = 1#32 + BitVec.ofNat 32 c.val := by
  after_reads_simp
  pointwise
  rfl

theorem flatProb (s : Fin 1800000) : (StableHlo.after e2 V (Proc.devRef .tc main_v120) : FVec Ideal S1800000 .f32) (ix1 s)
    = (V (Proc.devRef .tc main_v113) : FVec Ideal S20000x90 .f32) (ix2 ⟨s.val / 90, by have := s.isLt; omega⟩ ⟨s.val % 90, by omega⟩) := by
  after_reads_simp
  pointwise

theorem flatBox (s : Fin 1800000) (a : Fin 4) : (StableHlo.after e2 V (Proc.devRef .tc main_v119) : FVec Ideal S1800000x4 .f32) (ix2 s a)
    = (V (Proc.devRef .tc main_v112) : FVec Ideal S20000x90x4 .f32) (ix3 ⟨s.val / 90, by have := s.isLt; omega⟩ ⟨s.val % 90, by omega⟩ a) := by
  after_reads_simp
  pointwise

theorem flatLabel (s : Fin 1800000) : (StableHlo.after e2 V (Proc.devRef .tc main_v121) : IVec S1800000 32) (ix1 s)
    = (V (Proc.devRef .tc main_v118) : IVec S20000x90 32) (ix2 ⟨s.val / 90, by have := s.isLt; omega⟩ ⟨s.val % 90, by omega⟩) := by
  after_reads_simp
  pointwise

theorem flatValid (s : Fin 1800000) : (StableHlo.after e2 V (Proc.devRef .tc main_v123) : IVec S1800000 1) (ix1 s)
    = BitVec.ofBool (decide (Ideal.ofBits .f32 0x3D4CCCCD#32 < (((V (Proc.devRef .tc main_v113) : FVec Ideal S20000x90 .f32) (ix2 ⟨s.val / 90, by have := s.isLt; omega⟩ ⟨s.val % 90, by omega⟩) : EReal)))) := by
  after_reads_simp
  pointwise

theorem flatMask (s : Fin 1800000) : (StableHlo.after e2 V (Proc.devRef .tc main_v124) : FVec Ideal S1800000 .f32) (ix1 s)
    = Spec.mask ((V (Proc.devRef .tc main_v113) : FVec Ideal S20000x90 .f32) (ix2 ⟨s.val / 90, by have := s.isLt; omega⟩ ⟨s.val % 90, by omega⟩)) := by
  after_reads_simp
  simp -implicitDefEqProofs only [StableHlo.TRef.toBuf, StableHlo.TRef.ofBuf, cast_cast, cast_eq]
  pointwise
  rfl

end Flat

end

end Cert.Proof.RHost
-- ==== Proof.Alg.RProb.lean ====
/-
  The reference's softmax.
-/
module

public import proofs.«01_k».proof.Proof.Alg.RFlat

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Prob
variable (V : Vals)

theorem prob (n : Fin 20000) (c : Fin 90) : (StableHlo.after e1 V (Proc.devRef .tc main_v113) : FVec Ideal S20000x90 .f32) (ix2 n c)
    = Spec.soft (fun j => (V (Proc.devRef .tc main_arg0) : FVec Ideal S20000x91 .f32) (ix2 n j)) ⟨1 + c.val, by have := c.isLt; omega⟩ := by
  after_reads_simp
  pointwise
  rw [Spec.max_fold]
  rfl

end Prob

end

end Cert.Proof.RHost
-- ==== Proof.Alg.RTake.lean ====
/-
  What the reference takes at the positions of the 4096 greatest scores.
-/
module

public import proofs.«01_k».proof.Proof.Alg.RHost

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Taken
variable (V : Vals)

theorem greatest : (StableHlo.after c6 V (Proc.devRef .tc main_indices) : IVec S4096 32)
    = (Host.topK S4096 0 (FloatOps.cmpfTotal (F := Ideal) (φ := .f32) .gt) ((V (Proc.devRef .tc main_v124) : FVec Ideal S1800000 .f32)) sliceFits_S1800000_S4096).2 := by
  after_reads_simp

theorem c6_v119 : StableHlo.after c6 V (Proc.devRef .tc main_v119) = V (Proc.devRef .tc main_v119) := by
  after_reads_simp

theorem c6_v120 : StableHlo.after c6 V (Proc.devRef .tc main_v120) = V (Proc.devRef .tc main_v120) := by
  after_reads_simp

theorem c6_v121 : StableHlo.after c6 V (Proc.devRef .tc main_v121) = V (Proc.devRef .tc main_v121) := by
  after_reads_simp

theorem c6_v123 : StableHlo.after c6 V (Proc.devRef .tc main_v123) = V (Proc.devRef .tc main_v123) := by
  after_reads_simp

variable (σ : Fin 4096 → Fin 1800000) (h : ∀ k, (V (Proc.devRef .tc main_indices) : IVec S4096 32) (ix1 k) = BitVec.ofNat 32 (σ k).val)
include h

theorem takenBox (k : Fin 4096) (a : Fin 4) : (StableHlo.after c7 V (Proc.devRef .tc main_v125) : FVec Ideal S4096x4 .f32) (ix2 k a) = (V (Proc.devRef .tc main_v119) : FVec Ideal S1800000x4 .f32) (ix2 (σ k) a) := by
  after_reads_simp
  simp -implicitDefEqProofs only [StableHlo.TRef.toBuf, StableHlo.TRef.ofBuf, cast_cast, cast_eq]
  exact Take.takeR (by omega) _ rfl rfl rfl rfl rfl _ _ _ σ h _ 1799999 rfl _ _ _ _ _ _ _ _ _ k a

theorem takenScore (k : Fin 4096) : (StableHlo.after c7 V (Proc.devRef .tc main_v126) : FVec Ideal S4096 .f32) (ix1 k) = (V (Proc.devRef .tc main_v120) : FVec Ideal S1800000 .f32) (ix1 (σ k)) := by
  after_reads_simp
  simp -implicitDefEqProofs only [StableHlo.TRef.toBuf, StableHlo.TRef.ofBuf, cast_cast, cast_eq]
  exact Take.takeV (by omega) _ rfl rfl rfl rfl _ _ _ σ h _ 1799999 rfl _ _ _ _ _ _ _ _ k

theorem takenLabel (k : Fin 4096) : (StableHlo.after c7 V (Proc.devRef .tc main_v127) : IVec S4096 32) (ix1 k) = (V (Proc.devRef .tc main_v121) : IVec S1800000 32) (ix1 (σ k)) := by
  after_reads_simp
  simp -implicitDefEqProofs only [StableHlo.TRef.toBuf, StableHlo.TRef.ofBuf, cast_cast, cast_eq]
  exact Take.takeV (by omega) _ rfl rfl rfl rfl _ _ _ σ h _ 1799999 rfl _ _ _ _ _ _ _ _ k

theorem takenValid (k : Fin 4096) : (StableHlo.after c7 V (Proc.devRef .tc main_v128) : IVec S4096 1) (ix1 k) = (V (Proc.devRef .tc main_v123) : IVec S1800000 1) (ix1 (σ k)) := by
  after_reads_simp
  simp -implicitDefEqProofs only [StableHlo.TRef.toBuf, StableHlo.TRef.ofBuf, cast_cast, cast_eq]
  exact Take.takeV (by omega) _ rfl rfl rfl rfl _ _ _ σ h _ 1799999 rfl _ _ _ _ _ _ _ _ k

end Taken

end

end Cert.Proof.RHost
-- ==== Proof.Alg.ROver.lean ====
/-
  The overlaps the reference computes, and its loop's first contents.
-/
module

public import proofs.«01_k».proof.Proof.Alg.RHost

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Overlap
variable (V : Vals)

/-- The moved boxes. -/
abbrev d1 : Ops := hostOps0_15.take 7
/-- Their areas, and the sides of what two share. -/
abbrev d2 : Ops := hostOps0_15.drop 7 ++ hostOps0_16
/-- The overlaps. -/
abbrev d3 : Ops := hostOps0_17

theorem split8 : after c8 V = after d3 (after d2 (after d1 V)) := by
  simp only [← StableHlo.after_append]
  rfl

theorem moved (i : Fin 4096) (a : Fin 4) : (StableHlo.after d1 V (Proc.devRef .tc main_v134) : FVec Ideal S4096x4 .f32) (ix2 i a)
    = Spec.move (FloatOps.sitofp (F := Ideal) .f32 ((V (Proc.devRef .tc main_v127) : IVec S4096 32) (ix1 i))) (fun a => (V (Proc.devRef .tc main_v125) : FVec Ideal S4096x4 .f32) (ix2 i a)) a := by
  after_reads_simp
  pointwise
  rfl

theorem areas (i : Fin 4096) : (StableHlo.after d2 V (Proc.devRef .tc main_v145) : FVec Ideal S4096 .f32) (ix1 i) = Spec.area fun a => (V (Proc.devRef .tc main_v134) : FVec Ideal S4096x4 .f32) (ix2 i a) := by
  after_reads_simp
  pointwise
  rfl

theorem side0 (i n : Fin 4096) : (StableHlo.after d2 V (Proc.devRef .tc main_v161) : FVec Ideal S4096x4096x2 .f32) (ix3 i n (0 : Fin 2))
    = Spec.side ((V (Proc.devRef .tc main_v134) : FVec Ideal S4096x4 .f32) (ix2 i (0 : Fin 4))) ((V (Proc.devRef .tc main_v134) : FVec Ideal S4096x4 .f32) (ix2 i (2 : Fin 4)))
        ((V (Proc.devRef .tc main_v134) : FVec Ideal S4096x4 .f32) (ix2 n (0 : Fin 4))) ((V (Proc.devRef .tc main_v134) : FVec Ideal S4096x4 .f32) (ix2 n (2 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

theorem side1 (i n : Fin 4096) : (StableHlo.after d2 V (Proc.devRef .tc main_v161) : FVec Ideal S4096x4096x2 .f32) (ix3 i n (1 : Fin 2))
    = Spec.side ((V (Proc.devRef .tc main_v134) : FVec Ideal S4096x4 .f32) (ix2 i (1 : Fin 4))) ((V (Proc.devRef .tc main_v134) : FVec Ideal S4096x4 .f32) (ix2 i (3 : Fin 4)))
        ((V (Proc.devRef .tc main_v134) : FVec Ideal S4096x4 .f32) (ix2 n (1 : Fin 4))) ((V (Proc.devRef .tc main_v134) : FVec Ideal S4096x4 .f32) (ix2 n (3 : Fin 4))) := by
  after_reads_simp
  simp -implicitDefEqProofs only [StableHlo.TRef.toBuf, StableHlo.TRef.ofBuf, cast_cast, cast_eq]
  pointwise
  rw [show (id (constant (F := Ideal) S_ .f32 0#32) ix0) = (0 : EReal) from Ideal.ofBits_zero_f32]
  rfl

theorem ratio (i n : Fin 4096) : (StableHlo.after d3 V (Proc.devRef .tc main_v177_0) : FVec Ideal S4096x4096 .f32) (ix2 i n)
    = Spec.ratio ((V (Proc.devRef .tc main_v161) : FVec Ideal S4096x4096x2 .f32) (ix3 i n (0 : Fin 2))) ((V (Proc.devRef .tc main_v161) : FVec Ideal S4096x4096x2 .f32) (ix3 i n (1 : Fin 2)))
        ((V (Proc.devRef .tc main_v145) : FVec Ideal S4096 .f32) (ix1 i)) ((V (Proc.devRef .tc main_v145) : FVec Ideal S4096 .f32) (ix1 n)) := by
  after_reads_simp
  dsimp only [id]
  pointwise
  rfl

theorem overlap (i n : Fin 4096) : (StableHlo.after c8 V (Proc.devRef .tc main_v177_0) : FVec Ideal S4096x4096 .f32) (ix2 i n)
    = Spec.iou (Spec.move (FloatOps.sitofp (F := Ideal) .f32 ((V (Proc.devRef .tc main_v127) : IVec S4096 32) (ix1 i))) fun a => (V (Proc.devRef .tc main_v125) : FVec Ideal S4096x4 .f32) (ix2 i a))
        (Spec.move (FloatOps.sitofp (F := Ideal) .f32 ((V (Proc.devRef .tc main_v127) : IVec S4096 32) (ix1 n))) fun a => (V (Proc.devRef .tc main_v125) : FVec Ideal S4096x4 .f32) (ix2 n a)) := by
  rw [split8, ratio, side0, side1, areas, areas]
  have e := moved V
  generalize (StableHlo.after d1 V (Proc.devRef .tc main_v134) : FVec Ideal S4096x4 .f32) = X at e ⊢
  have e' : ∀ i : Fin 4096, (fun a : Fin 4 => X (ix2 i a)) = Spec.move (FloatOps.sitofp (F := Ideal) .f32 ((V (Proc.devRef .tc main_v127) : IVec S4096 32) (ix1 i))) fun a => (V (Proc.devRef .tc main_v125) : FVec Ideal S4096x4 .f32) (ix2 i a) :=
    fun i => funext (e i)
  rw [← e' i, ← e' n]
  rfl

theorem loop1 (i : Fin 4096) : (StableHlo.after c8 V (Proc.devRef .tc main_v177_1) : IVec S4096 32) (ix1 i) = BitVec.ofNat 32 i.val := by
  after_reads_simp
  rfl

theorem loop3 : (StableHlo.after c8 V (Proc.devRef .tc main_v177_3) : IVec S_ 32) ix0 = 0#32 := by
  after_reads_simp
  pointwise
  rfl

theorem loop4 : StableHlo.after c8 V (Proc.devRef .tc main_v177_4) = V (Proc.devRef .tc main_v128) := by
  after_reads_simp
  rfl

theorem c8_v125 : StableHlo.after c8 V (Proc.devRef .tc main_v125) = V (Proc.devRef .tc main_v125) := by
  after_reads_simp

theorem c8_v126 : StableHlo.after c8 V (Proc.devRef .tc main_v126) = V (Proc.devRef .tc main_v126) := by
  after_reads_simp

theorem c8_v127 : StableHlo.after c8 V (Proc.devRef .tc main_v127) = V (Proc.devRef .tc main_v127) := by
  after_reads_simp

end Overlap

end

end Cert.Proof.RHost
-- ==== Proof.Alg.RPost.lean ====
/-
  The results the reference takes from its final selection.
-/
module

public import proofs.«01_k».proof.Proof.Alg.RHost

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Post
variable (V : Vals)

/-- The scores of what is kept. -/
abbrev p1 : Ops := hostOps0_18 ++ hostOps0_19
/-- The 100 greatest of them. -/
abbrev p2 : Ops := hostOps0_20
/-- What is taken at those. -/
abbrev p3 : Ops := hostOps0_21 ++ hostOps0_22

theorem splitPost (V : Vals) : afterL postI V = after p3 (after p2 (after p1 V)) := by
  simp only [afterL_cons, afterL_nil, ← StableHlo.after_append]
  rfl

theorem keptScore (n : Fin 4096) : (StableHlo.after p1 V (Proc.devRef .tc main_v178) : FVec Ideal S4096 .f32) (ix1 n)
    = Scalar.select ((V (Proc.devRef .tc main_v177_4) : IVec S4096 1) (ix1 n)) ((V (Proc.devRef .tc main_v126) : FVec Ideal S4096 .f32) (ix1 n)) (Ideal.ofBits .f32 0xBF800000#32) := by
  after_reads_simp
  simp -implicitDefEqProofs only [StableHlo.TRef.toBuf, StableHlo.TRef.ofBuf, cast_cast, cast_eq]
  pointwise
  rfl

theorem finalScores : (StableHlo.after p2 V (Proc.devRef .tc main_values_26) : FVec Ideal S100 .f32)
    = (Host.topK S100 0 (FloatOps.cmpfTotal (F := Ideal) (φ := .f32) .gt) ((V (Proc.devRef .tc main_v178) : FVec Ideal S4096 .f32)) sliceFits_S4096_S100).1 := by
  after_reads_simp

theorem finalAt : (StableHlo.after p2 V (Proc.devRef .tc main_indices_27) : IVec S100 32)
    = (Host.topK S100 0 (FloatOps.cmpfTotal (F := Ideal) (φ := .f32) .gt) ((V (Proc.devRef .tc main_v178) : FVec Ideal S4096 .f32)) sliceFits_S4096_S100).2 := by
  after_reads_simp

theorem p1_v125 : StableHlo.after p1 V (Proc.devRef .tc main_v125) = V (Proc.devRef .tc main_v125) := by
  after_reads_simp

theorem p1_v127 : StableHlo.after p1 V (Proc.devRef .tc main_v127) = V (Proc.devRef .tc main_v127) := by
  after_reads_simp

theorem p2_v125 : StableHlo.after p2 V (Proc.devRef .tc main_v125) = V (Proc.devRef .tc main_v125) := by
  after_reads_simp

theorem p2_v127 : StableHlo.after p2 V (Proc.devRef .tc main_v127) = V (Proc.devRef .tc main_v127) := by
  after_reads_simp

theorem p3_scores : StableHlo.after p3 V (Proc.devRef .tc main_values_26) = V (Proc.devRef .tc main_values_26) := by
  after_reads_simp

variable (σ : Fin 100 → Fin 4096) (h : ∀ k, (V (Proc.devRef .tc main_indices_27) : IVec S100 32) (ix1 k) = BitVec.ofNat 32 (σ k).val)
include h

theorem finalBox (k : Fin 100) (a : Fin 4) : (StableHlo.after p3 V (Proc.devRef .tc main_v179) : FVec Ideal S100x4 .f32) (ix2 k a) = (V (Proc.devRef .tc main_v125) : FVec Ideal S4096x4 .f32) (ix2 (σ k) a) := by
  after_reads_simp
  simp -implicitDefEqProofs only [StableHlo.TRef.toBuf, StableHlo.TRef.ofBuf, cast_cast, cast_eq]
  exact Take.takeR (by omega) _ rfl rfl rfl rfl rfl _ _ _ σ h _ 4095 rfl _ _ _ _ _ _ _ _ _ k a

theorem finalLabel (k : Fin 100) : (StableHlo.after p3 V (Proc.devRef .tc main_v180) : IVec S100 32) (ix1 k) = (V (Proc.devRef .tc main_v127) : IVec S4096 32) (ix1 (σ k)) := by
  after_reads_simp
  simp -implicitDefEqProofs only [StableHlo.TRef.toBuf, StableHlo.TRef.ofBuf, cast_cast, cast_eq]
  exact Take.takeV (by omega) _ rfl rfl rfl rfl _ _ _ σ h _ 4095 rfl _ _ _ _ _ _ _ _ k

end Post

end

end Cert.Proof.RHost
-- ==== Proof.Alg.RLoop.lean ====
/-
  The reference's suppression loop: a trip is one row's turn, so the whole loop is greedy suppression.
-/
module

public import proofs.«01_k».proof.Proof.Alg.RHost

@[expose] public section

set_option maxRecDepth 16384

namespace Cert.Proof.RHost

open Cert.ReferenceIdeal Cert.ReferenceIdeal.Gen Cert.ReferenceIdeal.Value
open Idealize.ShloMosaic Idealize.ShloMosaic.StableHlo

noncomputable section

section Loop
variable (V : Vals)

/-- The start a slice along the turn's number has. -/
theorem start_word (k : ℕ) (hk : k < 4096) :
    (Scalar.select (IntOp.cmpi .slt (BitVec.ofNat 32 k) 0#32) (IntOp.addi (BitVec.ofNat 32 k) 4096#32) (BitVec.ofNat 32 k)).toInt = (k : ℤ) := by
  have h : IntOp.cmpi .slt (BitVec.ofNat 32 k) (BitVec.ofNat 32 0) = BitVec.ofBool (decide (k < 0)) := by
    rw [WordCmp.cmpi_slt_ofNat] <;> omega
  rw [show (0#32) = BitVec.ofNat 32 0 from rfl, h]
  simp only [Nat.not_lt_zero, decide_false]
  exact WordCmp.toInt_ofNat_of_lt (by omega)

/-- A trip's new kept mask, from the overlaps, the lanes, the kept mask, the starts of its two slices and its number. -/
def trip (M : FVec Ideal S4096x4096 .f32) (lane : IVec S4096 32) (K : IVec S4096 1) (a : Fin 2 → ℤ) (b : Fin 1 → ℤ) (w : IVec S_ 32) : IVec S4096 1 :=
  andi K (noti (andi (andi
    (cmpf .ogt (shapeCast S4096 (Host.dynamicSlice S1x4096 M a sliceFits_S4096x4096_S1x4096) shapeCasts_S1x4096_S4096)
      (broadcastInDim S4096 ![] bcast_S_S4096 (constant S_ .f32 0x3F000000#32)))
    (cmpi .sgt lane (broadcastInDim S4096 ![] bcast_S_S4096 w)))
    (broadcastInDim S4096 ![] bcast_S_S4096 (shapeCast S_ (Host.dynamicSlice S1 K b sliceFits_S4096_S1) shapeCasts_S1_S_))))

theorem trip_at (M : FVec Ideal S4096x4096 .f32) (lane : IVec S4096 32) (K : IVec S4096 1) (a : Fin 2 → ℤ) (b : Fin 1 → ℤ) (w : IVec S_ 32)
    (k : Fin 4096) (ha0 : a 0 = k.val) (ha1 : a 1 = 0) (hb : b 0 = k.val) (n : Fin 4096) :
    trip M lane K a b w (ix1 n)
      = IntOp.andi (K (ix1 n))
          (~~~(IntOp.andi (IntOp.andi (BitVec.ofBool (decide (Ideal.ofBits .f32 0x3F000000#32 < M (ix2 k n))))
              (IntOp.cmpi .sgt (lane (ix1 n)) (w ix0))) (K (ix1 k)))) := by
  have e2 : Host.dynamicSlice S1x4096 M a sliceFits_S4096x4096_S1x4096 = extractStridedSlice S1x4096 ![k.val, 0] M ⟨rfl, fun x => by
      have := k.isLt
      match x with
      | ⟨0, _⟩ => show k.val + 1 ≤ 4096; omega
      | ⟨1, _⟩ => show 0 + 4096 ≤ 4096; omega⟩ :=
    WordCmp.dynamicSlice_eq_extract _ _ _ _ _ _ fun x => by
      match x with
      | ⟨0, _⟩ => exact ha0
      | ⟨1, _⟩ => exact ha1
  have e1 : Host.dynamicSlice S1 K b sliceFits_S4096_S1 = extractStridedSlice S1 ![k.val] K ⟨rfl, fun x => by
      have := k.isLt
      match x with
      | ⟨0, _⟩ => show k.val + 1 ≤ 4096; omega⟩ :=
    WordCmp.dynamicSlice_eq_extract _ _ _ _ _ _ fun x => by
      match x with
      | ⟨0, _⟩ => exact hb
  unfold trip
  rw [e1, e2]
  pointwise

theorem step_trip (k : Fin 4096) (h3 : (V (Proc.devRef .tc main_v177_3) : IVec S_ 32) = fun _ => BitVec.ofNat 32 k.val) (n : Fin 4096) :
    (step_main_v177_4 V : IVec S4096 1) (ix1 n)
      = IntOp.andi ((V (Proc.devRef .tc main_v177_4) : IVec S4096 1) (ix1 n))
          (~~~(IntOp.andi (IntOp.andi
              (BitVec.ofBool (decide (Ideal.ofBits .f32 0x3F000000#32 < (V (Proc.devRef .tc main_v177_0) : FVec Ideal S4096x4096 .f32) (ix2 k n))))
              (IntOp.cmpi .sgt ((V (Proc.devRef .tc main_v177_1) : IVec S4096 32) (ix1 n)) (BitVec.ofNat 32 k.val)))
            ((V (Proc.devRef .tc main_v177_4) : IVec S4096 1) (ix1 k)))) := by
  unfold step_main_v177_4 res_main_while0b_v182
  dsimp only [id]
  rw [h3]
  exact trip_at _ _ _ _ _ _ k (start_word k.val k.isLt) rfl (start_word k.val k.isLt) n

/-- The kept mask as words. -/
def Bits (x : IVec S4096 1) (K : Fin 4096 → Prop) : Prop := ∀ n : Fin 4096, x (ix1 n) = 1#1 ↔ K n

theorem and_not (a b : BitVec 1) : IntOp.andi a (~~~b) = 1#1 ↔ a = 1#1 ∧ ¬ b = 1#1 := by
  revert a b; decide

theorem and_one (a b : BitVec 1) : IntOp.andi a b = 1#1 ↔ a = 1#1 ∧ b = 1#1 := by
  revert a b; decide

/-- What the loop holds after its first `k` trips. -/
structure Held (M : Fin 4096 → Fin 4096 → EReal) (K : Fin 4096 → Prop) (k : ℕ) (V : Vals) : Prop where
  overlaps : ∀ i n : Fin 4096, (V (Proc.devRef .tc main_v177_0) : FVec Ideal S4096x4096 .f32) (ix2 i n) = M i n
  lanes : ∀ n : Fin 4096, (V (Proc.devRef .tc main_v177_1) : IVec S4096 32) (ix1 n) = BitVec.ofNat 32 n.val
  count : (V (Proc.devRef .tc main_v177_3) : IVec S_ 32) = fun _ => BitVec.ofNat 32 k
  kept : Bits (V (Proc.devRef .tc main_v177_4) : IVec S4096 1) (Spec.keep M K k)

theorem Held.step {M : Fin 4096 → Fin 4096 → EReal} {K : Fin 4096 → Prop} {k : ℕ} (hk : k < 4096) {V : Vals} (h : Held M K k V) :
    Held M K (k + 1) (STEP V) where
  overlaps i n := by rw [STEP_main_v177_0]; exact h.overlaps i n
  lanes n := by rw [STEP_main_v177_1]; exact h.lanes n
  count := by
    rw [STEP_main_v177_3]
    unfold step_main_v177_3
    dsimp only [id]
    rw [h.count]
    funext x
    show BitVec.ofNat 32 k + BitVec.ofNat 32 1 = _
    rw [← BitVec.ofNat_add]
  kept n := by
    rw [STEP_main_v177_4, step_trip V ⟨k, hk⟩ h.count, and_not, and_one, and_one, h.lanes, h.overlaps, Spec.keep, dif_pos hk]
    have hs : IntOp.cmpi .sgt (BitVec.ofNat 32 n.val) (BitVec.ofNat 32 k) = BitVec.ofBool (decide (k < n.val)) := by
      have := n.isLt
      rw [WordCmp.cmpi_sgt_ofNat] <;> omega
    rw [hs, WordCmp.ofBool_decide_eq_one_iff, WordCmp.ofBool_decide_eq_one_iff, h.kept n, h.kept ⟨k, hk⟩]
    unfold Spec.turn
    rw [and_assoc]
    rfl

theorem Held.steps {M : Fin 4096 → Fin 4096 → EReal} {K : Fin 4096 → Prop} {V : Vals} (h : Held M K 0 V) :
    ∀ k ≤ 4096, Held M K k (STEP^[k] V)
  | 0, _ => h
  | k + 1, hk => by
    rw [Function.iterate_succ_apply']
    exact (Held.steps h k (by omega)).step (by omega)

end Loop

end

end Cert.Proof.RHost
-- ==== Proof.Alg.RRes.lean ====
/-
  The reference program's results.
-/
module

public import proofs.«01_k».proof.Proof.RI.Run
public import proofs.«01_k».proof.Proof.Alg.RProb
public import proofs.«01_k».proof.Proof.Alg.RTake
public import proofs.«01_k».proof.Proof.Alg.ROver
public import proofs.«01_k».proof.Proof.Alg.RPost
public import proofs.«01_k».proof.Proof.Alg.RLoop
public import proofs.«01_k».proof.Proof.Alg.Goal

@[expose] public section

set_option maxRecDepth 16384

namespace Cert.Proof.RRes

open Cert.ReferenceIdeal Cert.ReferenceIdeal.Gen Cert.ReferenceIdeal.Value Cert.Proof.RHost Cert.Proof.RI
open Idealize.ShloMosaic Idealize.ShloMosaic.StableHlo Idealize.SL
open Goal (row col)
open scoped Classical

noncomputable section

variable (m : (ℓ : Loc nD τ sig) → Buf (Elt Ideal) ℓ) (c : Dev nD)

/-- The launch's arguments. -/
def args : Goal.Args where
  logits n j := (m ((c.tc : Thread nD τ).loc main_arg0) : FVec Ideal S20000x91 .f32) (ix2 n j)
  regs n j := (m ((c.tc : Thread nD τ).loc main_arg1) : FVec Ideal S20000x364 .f32) (ix2 n j)
  props n j := (m ((c.tc : Thread nD τ).loc main_arg2) : FVec Ideal S20000x4 .f32) (ix2 n j)
  size q := (m ((c.tc : Thread nD τ).loc main_arg3) : IVec S2 32) (ix1 q)

/-- The buffers after each stretch before the loop. -/
def T1 : Vals := after c1 (launchContents m c)
def T2 : Vals := after c2 (T1 m c)
def T3 : Vals := after c3 (T2 m c)
def T4 : Vals := after c4 (T3 m c)
def T5 : Vals := after e1 (T4 m c)
def T6 : Vals := after e2 (T5 m c)
def T7 : Vals := after c6 (T6 m c)
def T8 : Vals := after c7 (T7 m c)
def T9 : Vals := after c8 (T8 m c)

theorem entry_eq : entryContents preI m c = T9 m c := by
  unfold T9 T8 T7 T6 T5
  rw [← split5]
  exact split (launchContents m c)

/-! ## The candidates -/

theorem args3 : T2 m c (Proc.devRef .tc main_arg3) = m ((c.tc : Thread nD τ).loc main_arg3) := by
  unfold T2 T1
  rw [c2_arg3, c1_arg3]

theorem args0 : T4 m c (Proc.devRef .tc main_arg0) = m ((c.tc : Thread nD τ).loc main_arg0) := by
  unfold T4 T3 T2 T1
  rw [c4_arg0, c3_arg0, c2_arg0, c1_arg0]

/-- A decoded and clipped box. -/
theorem decoded (n : Fin 20000) (j : Fin 91) (a : Fin 4) : (T4 m c (Proc.devRef .tc main_v100) : FVec Ideal S20000x91x4 .f32) (ix3 n j a)
    = Spec.box (FloatOps.sitofp (F := Ideal) .f32 ((args m c).size 1)) (FloatOps.sitofp (F := Ideal) .f32 ((args m c).size 0)) ((args m c).props n)
        (fun a => (args m c).regs n ⟨j.val * 4 + a.val, by have := j.isLt; have := a.isLt; omega⟩) a := by
  unfold T4
  match a with
  | ⟨0, _⟩ =>
    refine (c4_at0 _ n j).trans ?_
    unfold T3
    rw [clip0, args3]
    exact congrArg (Spec.clip _) ((c2_at0 _ n j).trans (dec0 _ n j))
  | ⟨1, _⟩ =>
    refine (c4_at1 _ n j).trans ?_
    unfold T3
    rw [clip1, args3]
    exact congrArg (Spec.clip _) ((c2_at1 _ n j).trans (dec1 _ n j))
  | ⟨2, _⟩ =>
    refine (c4_at2 _ n j).trans ?_
    unfold T3
    rw [clip2, args3]
    exact congrArg (Spec.clip _) ((c2_at2 _ n j).trans (dec2 _ n j))
  | ⟨3, _⟩ =>
    refine (c4_at3 _ n j).trans ?_
    unfold T3
    rw [clip3, args3]
    exact congrArg (Spec.clip _) ((c2_at3 _ n j).trans (dec3 _ n j))

theorem prob_at (s : Fin 1800000) : (T5 m c (Proc.devRef .tc main_v113) : FVec Ideal S20000x90 .f32) (ix2 ⟨s.val / 90, by have := s.isLt; omega⟩ ⟨s.val % 90, by omega⟩)
    = Goal.prob (args m c) s := by
  unfold T5
  rw [prob, args0]
  rfl

theorem value_at (s : Fin 1800000) : (T6 m c (Proc.devRef .tc main_v124) : FVec Ideal S1800000 .f32) (ix1 s) = Goal.value (args m c) s := by
  unfold T6
  rw [flatMask, prob_at]
  rfl

theorem index_at (k : Fin 4096) : (T7 m c (Proc.devRef .tc main_indices) : IVec S4096 32) (ix1 k) = BitVec.ofNat 32 (Goal.top (args m c) k).val := by
  unfold T7
  rw [greatest]
  exact (Goal.top_greatest (args m c) (T6 m c (Proc.devRef .tc main_v124)) (value_at m c) sliceFits_S1800000_S4096 k).2

theorem cand_at (k : Fin 4096) (a : Fin 4) : (T8 m c (Proc.devRef .tc main_v125) : FVec Ideal S4096x4 .f32) (ix2 k a) = Goal.cand (args m c) k a := by
  refine (takenBox _ _ (index_at m c) k a).trans ?_
  unfold T7
  rw [c6_v119]
  unfold T6
  rw [flatBox]
  unfold T5
  rw [shifted]
  exact decoded m c _ _ a

theorem score_at (k : Fin 4096) : (T8 m c (Proc.devRef .tc main_v126) : FVec Ideal S4096 .f32) (ix1 k) = Goal.prob (args m c) (Goal.top (args m c) k) := by
  refine (takenScore _ _ (index_at m c) k).trans ?_
  unfold T7
  rw [c6_v120]
  unfold T6
  rw [flatProb]
  exact prob_at m c _

theorem label_at (k : Fin 4096) : (T8 m c (Proc.devRef .tc main_v127) : IVec S4096 32) (ix1 k) = Goal.label (args m c) k := by
  refine (takenLabel _ _ (index_at m c) k).trans ?_
  unfold T7
  rw [c6_v121]
  unfold T6
  rw [flatLabel]
  unfold T5
  rw [labels]
  unfold Goal.label
  rw [BitVec.ofNat_add]

theorem fine_at (k : Fin 4096) : (T8 m c (Proc.devRef .tc main_v128) : IVec S4096 1) (ix1 k) = 1#1 ↔ Goal.fine (args m c) k := by
  rw [show (T8 m c (Proc.devRef .tc main_v128) : IVec S4096 1) (ix1 k) = _ from takenValid _ _ (index_at m c) k]
  unfold T7
  rw [c6_v123]
  unfold T6
  rw [flatValid, prob_at, WordCmp.ofBool_decide_eq_one_iff]
  rfl

/-! ## The loop -/

theorem held : Held (Goal.over (args m c)) (Goal.fine (args m c)) 0 (T9 m c) where
  overlaps i n := by
    unfold T9
    rw [overlap, label_at, label_at, show (fun a => (T8 m c (Proc.devRef .tc main_v125) : FVec Ideal S4096x4 .f32) (ix2 i a)) = _ from funext (cand_at m c i),
      show (fun a => (T8 m c (Proc.devRef .tc main_v125) : FVec Ideal S4096x4 .f32) (ix2 n a)) = _ from funext (cand_at m c n)]
    rfl
  lanes n := loop1 (T8 m c) n
  count := funext fun x => by
    rw [show x = ix0 from funext fun a => a.elim0]
    exact loop3 (T8 m c)
  kept n := by
    unfold T9
    rw [loop4]
    exact fine_at m c n

/-- The buffers when the loop is done. -/
def T10 : Vals := after condOps (atK m 4096 c)

theorem T10_kept (n : Fin 4096) : (T10 m c (Proc.devRef .tc main_v177_4) : IVec S4096 1) (ix1 n) = 1#1 ↔ Goal.keep (args m c) 4096 n := by
  have e : T10 m c (Proc.devRef .tc main_v177_4) = STEP^[4096] (T9 m c) (Proc.devRef .tc main_v177_4) := by
    rw [← entry_eq]
    exact (cond_keeps _ main_v177_4 (by decide)).trans (atK_agree m c 4096 main_v177_4 (by decide))
  rw [e]
  exact ((held m c).steps 4096 le_rfl).kept n

/-- The loop leaves what neither it nor its condition writes. -/
theorem T10_of (r : Ref sig .tc) (hc : r ∉ condOps_W) (hw : r ∉ while0Ops0_W) : T10 m c (Proc.devRef .tc r) = T9 m c (Proc.devRef .tc r) := by
  unfold T10
  rw [after_of_writes_sub condOps _ condOps_writes hc, ← entry_eq]
  exact trip_of m c r hc hw 4096

theorem T10_cand (k : Fin 4096) (a : Fin 4) : (T10 m c (Proc.devRef .tc main_v125) : FVec Ideal S4096x4 .f32) (ix2 k a) = Goal.cand (args m c) k a := by
  rw [T10_of m c main_v125 (by decide +kernel) (by decide +kernel)]
  unfold T9
  rw [c8_v125]
  exact cand_at m c k a

theorem T10_score (k : Fin 4096) : (T10 m c (Proc.devRef .tc main_v126) : FVec Ideal S4096 .f32) (ix1 k) = Goal.prob (args m c) (Goal.top (args m c) k) := by
  rw [T10_of m c main_v126 (by decide +kernel) (by decide +kernel)]
  unfold T9
  rw [c8_v126]
  exact score_at m c k

theorem T10_label (k : Fin 4096) : (T10 m c (Proc.devRef .tc main_v127) : IVec S4096 32) (ix1 k) = Goal.label (args m c) k := by
  rw [T10_of m c main_v127 (by decide +kernel) (by decide +kernel)]
  unfold T9
  rw [c8_v127]
  exact label_at m c k

/-! ## The results -/

def T11 : Vals := after p1 (T10 m c)
def T12 : Vals := after p2 (T11 m c)
def T13 : Vals := after p3 (T12 m c)

theorem final_eq : finalContents condOps preI bodyI postI 4096 m c = T13 m c := splitPost (T10 m c)

theorem final_at (n : Fin 4096) : (T11 m c (Proc.devRef .tc main_v178) : FVec Ideal S4096 .f32) (ix1 n) = Goal.final (args m c) 4096 n := by
  unfold T11
  rw [keptScore, T10_score]
  unfold Goal.final Scalar.select
  by_cases h : Goal.keep (args m c) 4096 n
  · exact (if_pos ((T10_kept m c n).mpr h)).trans ((Goal.score_fine _ n (Goal.keep_fine _ _ n h)).symm.trans (if_pos h).symm)
  · exact (if_neg fun x => h ((T10_kept m c n).mp x)).trans (if_neg h).symm

/-- An index written either way. -/
theorem ofFin_eq {s : ℕ} (n : Fin s) : (Shape.Idx.ofFin n : (⟨1, ![s]⟩ : Shape).Idx) = ix1 n := by
  funext a
  match a with
  | ⟨0, _⟩ => rfl

theorem final_at' (n : Fin 4096) : (T11 m c (Proc.devRef .tc main_v178) : FVec Ideal S4096 .f32) (.ofFin n) = Goal.final (args m c) 4096 n := by
  rw [ofFin_eq]
  exact final_at m c n

theorem pick_at (r : Fin 100) : (T12 m c (Proc.devRef .tc main_indices_27) : IVec S100 32) (ix1 r) = BitVec.ofNat 32 (Goal.pick (args m c) 4096 r).val := by
  unfold T12
  rw [finalAt, ← ofFin_eq r]
  exact (Goal.pick_greatest (args m c) 4096 (T11 m c (Proc.devRef .tc main_v178)) (final_at' m c) sliceFits_S4096_S100 r).2

theorem results (r : Fin 100) :
    (finalContents condOps preI bodyI postI 4096 m c (Proc.devRef .tc main_values_26) : FVec Ideal S100 .f32) (ix1 r)
        = Goal.final (args m c) 4096 (Goal.pick (args m c) 4096 r)
      ∧ (∀ a : Fin 4, (finalContents condOps preI bodyI postI 4096 m c (Proc.devRef .tc main_v179) : FVec Ideal S100x4 .f32) (ix2 r a)
        = Goal.cand (args m c) (Goal.pick (args m c) 4096 r) a)
      ∧ (finalContents condOps preI bodyI postI 4096 m c (Proc.devRef .tc main_v180) : IVec S100 32) (ix1 r)
        = Goal.label (args m c) (Goal.pick (args m c) 4096 r) := by
  rw [final_eq]
  refine ⟨?_, fun a => ?_, ?_⟩
  · unfold T13
    rw [p3_scores]
    unfold T12
    rw [finalScores, ← ofFin_eq r]
    exact (Goal.pick_greatest (args m c) 4096 (T11 m c (Proc.devRef .tc main_v178)) (final_at' m c) sliceFits_S4096_S100 r).1
  · refine (finalBox _ _ (pick_at m c) r a).trans ?_
    unfold T12
    rw [p2_v125]
    unfold T11
    rw [p1_v125]
    exact T10_cand m c _ a
  · refine (finalLabel _ _ (pick_at m c) r).trans ?_
    unfold T12
    rw [p2_v127]
    unfold T11
    rw [p1_v127]
    exact T10_label m c _

end

end Cert.Proof.RRes
-- ==== Proof.Alg.Final.lean ====
/-
  The kernel program and the reference program leave the same results.
-/
module

public import proofs.«01_k».proof.Proof.Alg.KRes
public import proofs.«01_k».proof.Proof.Alg.RRes

@[expose] public section

namespace Cert.Proof.Final

open Idealize.ShloMosaic Idealize.SL
open scoped Classical

noncomputable section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launches hold the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The arguments as functions of their coordinates. -/
def ofVecs (x : FVec Ideal ⟨2, ![20000, 91]⟩ .f32) (y : FVec Ideal ⟨2, ![20000, 364]⟩ .f32) (z : FVec Ideal ⟨2, ![20000, 4]⟩ .f32)
    (s : IVec ⟨1, ![2]⟩ 32) : Goal.Args where
  logits n j := x (ix2 n j)
  regs n j := y (ix2 n j)
  props n j := z (ix2 n j)
  size q := s (ix1 q)

theorem ofVecs_congr {x x' : FVec Ideal ⟨2, ![20000, 91]⟩ .f32} {y y' : FVec Ideal ⟨2, ![20000, 364]⟩ .f32} {z z' : FVec Ideal ⟨2, ![20000, 4]⟩ .f32}
    {s s' : IVec ⟨1, ![2]⟩ 32} (hx : x' = x) (hy : y' = y) (hz : z' = z) (hs : s' = s) : ofVecs x' y' z' s' = ofVecs x y z s := by
  subst hx hy hz hs
  rfl

theorem args_eq (h : Agree m m' c) : RRes.args m' c = KRes.args m c := ofVecs_congr h.1 h.2.1 h.2.2.1 h.2.2.2

/-- Two rows alike at every entry are the same. -/
theorem row_ext {α : Type} {s : ℕ} (x y : (⟨1, ![s]⟩ : Shape).Idx → α) (h : ∀ n, x (ix1 n) = y (ix1 n)) : x = y :=
  funext fun i => by
    rw [show i = ix1 (i 0) from funext fun a => match a with | ⟨0, _⟩ => rfl]
    exact h (i 0)

/-- Two tables alike at every entry are the same. -/
theorem table_ext {α : Type} {s t : ℕ} (x y : (⟨2, ![s, t]⟩ : Shape).Idx → α) (h : ∀ n a, x (ix2 n a) = y (ix2 n a)) : x = y :=
  funext fun i => by
    rw [show i = ix2 (i 0) (i 1) from funext fun a => match a with | ⟨0, _⟩ => rfl | ⟨1, _⟩ => rfl]
    exact h (i 0) (i 1)

/-- The kernel's results. -/
def boxesK : FVec Ideal ⟨2, ![100, 4]⟩ .f32 := Cert.KernelIdeal.Gen.V4 m (KI.outs m) c (Proc.devRef .tc Cert.KernelIdeal.main_v0_0)
def scoresK : FVec Ideal ⟨1, ![100]⟩ .f32 := Cert.KernelIdeal.Gen.V4 m (KI.outs m) c (Proc.devRef .tc Cert.KernelIdeal.main_v0_1)
def labelsK : IVec ⟨1, ![100]⟩ 32 := Cert.KernelIdeal.Gen.V4 m (KI.outs m) c (Proc.devRef .tc Cert.KernelIdeal.main_v0_2)

/-- The reference's results. -/
def left : Valuation Cert.ReferenceIdeal.τ Cert.ReferenceIdeal.sig (Elt Ideal) :=
  StableHlo.finalContents Cert.ReferenceIdeal.Value.condOps Cert.ReferenceIdeal.Value.preI Cert.ReferenceIdeal.Value.bodyI Cert.ReferenceIdeal.Value.postI 4096 m' c
def boxesR : FVec Ideal ⟨2, ![100, 4]⟩ .f32 := left m' c (Proc.devRef .tc Cert.ReferenceIdeal.main_v179)
def scoresR : FVec Ideal ⟨1, ![100]⟩ .f32 := left m' c (Proc.devRef .tc Cert.ReferenceIdeal.main_values_26)
def labelsR : IVec ⟨1, ![100]⟩ 32 := left m' c (Proc.devRef .tc Cert.ReferenceIdeal.main_v180)

theorem scores_eq (h : Agree m m' c) : scoresR m' c = scoresK m c :=
  row_ext _ _ fun r => ((RRes.results m' c r).1.trans (by rw [args_eq m m' c h])).trans (KRes.results m c r).1.symm

theorem boxes_eq (h : Agree m m' c) : boxesR m' c = boxesK m c :=
  table_ext _ _ fun r a => (((RRes.results m' c r).2.1 a).trans (by rw [args_eq m m' c h])).trans ((KRes.results m c r).2.1 a).symm

theorem labels_eq (h : Agree m m' c) : labelsR m' c = labelsK m c :=
  row_ext _ _ fun r => ((RRes.results m' c r).2.2.trans (by rw [args_eq m m' c h])).trans (KRes.results m c r).2.2.symm

end

end Cert.Proof.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Run
public import proofs.«01_k».proof.Proof.Alg.Final
public import Idealize.ShloMosaic.Adequacy
public import Idealize.ShloMosaic.Init

@[expose] public section

noncomputable section

namespace Cert.Proof

open Idealize.ShloMosaic Idealize.SL.Sem Cert.Kernel

/-- The kernel's frame. -/
theorem frame_K : Cert.quiescent_Kernel := fun m g _ =>
  (θ_run _ _ _).mono (fun _ h => ⟨fun c => ⟨(h.1 c).1, (h.1 c).2.1, (h.1 c).2.2.1, (h.1 c).2.2.2.1⟩, h.2⟩) (K.run_main m g)

/-- The idealized kernel's frame. -/
theorem frame_KI : Cert.quiescent_KernelIdeal := fun m g _ =>
  (θ_run _ _ _).mono (fun _ h => ⟨fun c => ⟨(h.1 c).1, (h.1 c).2.1, (h.1 c).2.2.1, (h.1 c).2.2.2.1⟩, h.2⟩) (KI.run_main m g)

/-- The reference's frame. -/
theorem frame_RI : Cert.quiescent_ReferenceIdeal := fun m g _ =>
  (θ_run _ _ _).mono (fun _ h => ⟨fun c => ⟨(h.1 c).1, (h.1 c).2.1, (h.1 c).2.2.1, (h.1 c).2.2.2.1⟩, h.2⟩) (RI.run_main m g)

/-- The kernel and the reference leave the same results from the same arguments. -/
theorem same : Cert.algebraic_KernelIdeal_ReferenceIdeal := fun m g m' g' _ hag =>
  ⟨fun c => Final.boxesK m c, fun c => Final.scoresK m c, fun c => Final.labelsK m c,
    (θ_run _ _ _).mono (fun _ h c => ⟨(h.1 c).2.2.2.2.1, (h.1 c).2.2.2.2.2.1, (h.1 c).2.2.2.2.2.2,
      (h.1 c).1, (h.1 c).2.1, (h.1 c).2.2.1, (h.1 c).2.2.2.1⟩) (KI.run_main m g),
    (θ_run _ _ _).mono (fun _ h c => ⟨(h.1 c).2.2.2.2.1.trans (Final.boxes_eq m m' c (hag c)), (h.1 c).2.2.2.2.2.1.trans (Final.scores_eq m m' c (hag c)),
      (h.1 c).2.2.2.2.2.2.trans (Final.labels_eq m m' c (hag c)),
      (h.1 c).1, (h.1 c).2.1, (h.1 c).2.2.1, (h.1 c).2.2.2.1⟩) (RI.run_main m' g')⟩

/-- Every claim of the certificate. -/
theorem claim : Cert.Claim := ⟨Cert.Kernel.Gen.facts, Cert.KernelIdeal.Gen.facts, Cert.ReferenceIdeal.Gen.facts,
  frame_K, frame_KI, frame_RI, trivial, same⟩

end Cert.Proof

end
